-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x256 : Shape := ⟨2, ![512, 256]⟩
abbrev S2x128x32x64 : Shape := ⟨4, ![2, 128, 32, 64]⟩
abbrev S256x512 : Shape := ⟨2, ![256, 512]⟩
abbrev S_ : Shape := ⟨0, ![]⟩
abbrev S2x128x4x64 : Shape := ⟨4, ![2, 128, 4, 64]⟩
abbrev S2x4x128x64 : Shape := ⟨4, ![2, 4, 128, 64]⟩
abbrev S8x32x512 : Shape := ⟨3, ![8, 32, 512]⟩
abbrev S256x256 : Shape := ⟨2, ![256, 256]⟩
abbrev S8 : Shape := ⟨1, ![8]⟩
abbrev S128x64 : Shape := ⟨2, ![128, 64]⟩
abbrev S1x1x128x64 : Shape := ⟨4, ![1, 1, 128, 64]⟩
abbrev S128x128 : Shape := ⟨2, ![128, 128]⟩
abbrev S128 : Shape := ⟨1, ![128]⟩
abbrev S128x1 : Shape := ⟨2, ![128, 1]⟩
abbrev S32x256 : Shape := ⟨2, ![32, 256]⟩
abbrev S32x512 : Shape := ⟨2, ![32, 512]⟩
abbrev S1x32x512 : Shape := ⟨3, ![1, 32, 512]⟩
abbrev S1 : Shape := ⟨1, ![1]⟩

abbrev nBuf : Space → Nat
  | .hbm => 38
  | .vmem => 10
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S2x128x32x64, .bf16⟩
  | .hbm, ⟨3, _⟩ => ⟨S2x128x32x64, .bf16⟩
  | .hbm, ⟨4, _⟩ => ⟨S256x512, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x128x4x64, .bf16⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x128x4x64, .bf16⟩
  | .hbm, ⟨33, _⟩ => ⟨S2x4x128x64, .bf16⟩
  | .hbm, ⟨34, _⟩ => ⟨S2x4x128x64, .bf16⟩
  | .hbm, ⟨35, _⟩ => ⟨S256x512, .bf16⟩
  | .hbm, ⟨36, _⟩ => ⟨S8x32x512, .f32⟩
  | .hbm, ⟨37, _⟩ => ⟨S2x128x512, .f32⟩
  | .local _ .vmem, ⟨0, _⟩ => ⟨S256x512, .bf16⟩
  | .local _ .vmem, ⟨1, _⟩ => ⟨S512x256, .bf16⟩
  | .local _ .vmem, ⟨2, _⟩ => ⟨S2x4x128x64, .bf16⟩
  | .local _ .vmem, ⟨3, _⟩ => ⟨S2x4x128x64, .bf16⟩
  | .local _ .vmem, ⟨4, _⟩ => ⟨S256x512, .bf16⟩
  | .local _ .vmem, ⟨5, _⟩ => ⟨S8x32x512, .f32⟩
  | .local _ .vmem, ⟨6, _⟩ => ⟨S256x256, .f32⟩
  | .local _ .vmem, ⟨7, _⟩ => ⟨S8x32x512, .bf16⟩
  | .local _ .vmem, ⟨8, _⟩ => ⟨S8x32x512, .bf16⟩
  | .local _ .vmem, ⟨9, _⟩ => ⟨S8x32x512, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) (c1_i32_141 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v209 : BitVec 32 := Scalar.addi v2 c1_i32_141
  let c8_i32_142 : BitVec 32 := 8#32
  let v210 : BitVec 32 := Scalar.remsi v209 c8_i32_142
  let c32_i32 : BitVec 32 := 32#32
  let v211 : BitVec 32 := Scalar.muli v210 c32_i32
  let v212 : Index := Scalar.indexCast v211
  let c0_143 : Index := 0#32
  ![v212.toNat, 0]
def k0_off2 (d0 : Dev nD) (c1_i32_141 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v209 : BitVec 32 := Scalar.addi v2 c1_i32_141
  let c8_i32_142 : BitVec 32 := 8#32
  let v210 : BitVec 32 := Scalar.remsi v209 c8_i32_142
  let v218 : Index := Scalar.indexCast v210
  let c0_145 : Index := 0#32
  let c0_146 : Index := 0#32
  ![v218.toNat, 0, 0]
def k0_off3 (d0 : Dev nD) (c1_i32_141 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v209 : BitVec 32 := Scalar.addi v2 c1_i32_141
  let c8_i32_142 : BitVec 32 := 8#32
  let v210 : BitVec 32 := Scalar.remsi v209 c8_i32_142
  let c0_i32_154 : BitVec 32 := 0#32
  let c0_i32_155 : BitVec 32 := 0#32
  ![v210.toNat, 0, 0]
def k0_dev8 (d0 : Dev nD) : Nat :=
  let c0_i32_150 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_141 : BitVec 32 := 1#32
  let v209 : BitVec 32 := Scalar.addi v2 c1_i32_141
  let c8_i32_142 : BitVec 32 := 8#32
  let v210 : BitVec 32 := Scalar.remsi v209 c8_i32_142
  let c1_i32_149 : BitVec 32 := 1#32
  let v222 : BitVec 32 := Scalar.muli v210 c1_i32_149
  let v223 : BitVec 32 := Scalar.addi c0_i32_150 v222
  v223.toNat
def k0_dev9 (d0 : Dev nD) : Nat :=
  let c0_i32_166 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_156 : BitVec 32 := 2#32
  let v230 : BitVec 32 := Scalar.addi v2 c2_i32_156
  let c8_i32_157 : BitVec 32 := 8#32
  let v231 : BitVec 32 := Scalar.remsi v230 c8_i32_157
  let c1_i32_165 : BitVec 32 := 1#32
  let v243 : BitVec 32 := Scalar.muli v231 c1_i32_165
  let v244 : BitVec 32 := Scalar.addi c0_i32_166 v243
  v244.toNat
def k0_dev10 (d0 : Dev nD) : Nat :=
  let c0_i32_182 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_172 : BitVec 32 := 3#32
  let v251 : BitVec 32 := Scalar.addi v2 c3_i32_172
  let c8_i32_173 : BitVec 32 := 8#32
  let v252 : BitVec 32 := Scalar.remsi v251 c8_i32_173
  let c1_i32_181 : BitVec 32 := 1#32
  let v264 : BitVec 32 := Scalar.muli v252 c1_i32_181
  let v265 : BitVec 32 := Scalar.addi c0_i32_182 v264
  v265.toNat
def k0_dev11 (d0 : Dev nD) : Nat :=
  let c0_i32_198 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_188 : BitVec 32 := 4#32
  let v272 : BitVec 32 := Scalar.addi v2 c4_i32_188
  let c8_i32_189 : BitVec 32 := 8#32
  let v273 : BitVec 32 := Scalar.remsi v272 c8_i32_189
  let c1_i32_197 : BitVec 32 := 1#32
  let v285 : BitVec 32 := Scalar.muli v273 c1_i32_197
  let v286 : BitVec 32 := Scalar.addi c0_i32_198 v285
  v286.toNat
def k0_dev12 (d0 : Dev nD) : Nat :=
  let c0_i32_214 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_204 : BitVec 32 := 5#32
  let v293 : BitVec 32 := Scalar.addi v2 c5_i32_204
  let c8_i32_205 : BitVec 32 := 8#32
  let v294 : BitVec 32 := Scalar.remsi v293 c8_i32_205
  let c1_i32_213 : BitVec 32 := 1#32
  let v306 : BitVec 32 := Scalar.muli v294 c1_i32_213
  let v307 : BitVec 32 := Scalar.addi c0_i32_214 v306
  v307.toNat
def k0_dev13 (d0 : Dev nD) : Nat :=
  let c0_i32_230 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_220 : BitVec 32 := 6#32
  let v314 : BitVec 32 := Scalar.addi v2 c6_i32_220
  let c8_i32_221 : BitVec 32 := 8#32
  let v315 : BitVec 32 := Scalar.remsi v314 c8_i32_221
  let c1_i32_229 : BitVec 32 := 1#32
  let v327 : BitVec 32 := Scalar.muli v315 c1_i32_229
  let v328 : BitVec 32 := Scalar.addi c0_i32_230 v327
  v328.toNat
def k0_dev14 (d0 : Dev nD) : Nat :=
  let c0_i32_246 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_236 : BitVec 32 := 7#32
  let v335 : BitVec 32 := Scalar.addi v2 c7_i32_236
  let c8_i32_237 : BitVec 32 := 8#32
  let v336 : BitVec 32 := Scalar.remsi v335 c8_i32_237
  let c1_i32_245 : BitVec 32 := 1#32
  let v348 : BitVec 32 := Scalar.muli v336 c1_i32_245
  let v349 : BitVec 32 := Scalar.addi c0_i32_246 v348
  v349.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32_252 : BitVec 32 := 32#32
  let v356 : BitVec 32 := Scalar.muli v2 c32_i32_252
  let v357 : Index := Scalar.indexCast v356
  let c0_253 : Index := 0#32
  ![v357.toNat, 0]
def k0_off5 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v433 : Index := Scalar.indexCast v2
  let c0_335 : Index := 0#32
  let c0_336 : Index := 0#32
  ![v433.toNat, 0, 0]
def k0_off6 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_343 : BitVec 32 := 0#32
  let c0_i32_344 : BitVec 32 := 0#32
  ![v2.toNat, 0, 0]
def k0_dev15 (d0 : Dev nD) : Nat :=
  let c0_i32_342 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_337 : BitVec 32 := 1#32
  let v437 : BitVec 32 := Scalar.addi v2 c1_i32_337
  let c8_i32_338 : BitVec 32 := 8#32
  let v438 : BitVec 32 := Scalar.remsi v437 c8_i32_338
  let c1_i32_341 : BitVec 32 := 1#32
  let v439 : BitVec 32 := Scalar.muli v438 c1_i32_341
  let v440 : BitVec 32 := Scalar.addi c0_i32_342 v439
  v440.toNat
def k0_dev16 (d0 : Dev nD) : Nat :=
  let c0_i32_352 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_347 : BitVec 32 := 2#32
  let v447 : BitVec 32 := Scalar.addi v2 c2_i32_347
  let c8_i32_348 : BitVec 32 := 8#32
  let v448 : BitVec 32 := Scalar.remsi v447 c8_i32_348
  let c1_i32_351 : BitVec 32 := 1#32
  let v449 : BitVec 32 := Scalar.muli v448 c1_i32_351
  let v450 : BitVec 32 := Scalar.addi c0_i32_352 v449
  v450.toNat
def k0_dev17 (d0 : Dev nD) : Nat :=
  let c0_i32_362 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_357 : BitVec 32 := 3#32
  let v457 : BitVec 32 := Scalar.addi v2 c3_i32_357
  let c8_i32_358 : BitVec 32 := 8#32
  let v458 : BitVec 32 := Scalar.remsi v457 c8_i32_358
  let c1_i32_361 : BitVec 32 := 1#32
  let v459 : BitVec 32 := Scalar.muli v458 c1_i32_361
  let v460 : BitVec 32 := Scalar.addi c0_i32_362 v459
  v460.toNat
def k0_dev18 (d0 : Dev nD) : Nat :=
  let c0_i32_372 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_367 : BitVec 32 := 4#32
  let v467 : BitVec 32 := Scalar.addi v2 c4_i32_367
  let c8_i32_368 : BitVec 32 := 8#32
  let v468 : BitVec 32 := Scalar.remsi v467 c8_i32_368
  let c1_i32_371 : BitVec 32 := 1#32
  let v469 : BitVec 32 := Scalar.muli v468 c1_i32_371
  let v470 : BitVec 32 := Scalar.addi c0_i32_372 v469
  v470.toNat
def k0_dev19 (d0 : Dev nD) : Nat :=
  let c0_i32_382 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_377 : BitVec 32 := 5#32
  let v477 : BitVec 32 := Scalar.addi v2 c5_i32_377
  let c8_i32_378 : BitVec 32 := 8#32
  let v478 : BitVec 32 := Scalar.remsi v477 c8_i32_378
  let c1_i32_381 : BitVec 32 := 1#32
  let v479 : BitVec 32 := Scalar.muli v478 c1_i32_381
  let v480 : BitVec 32 := Scalar.addi c0_i32_382 v479
  v480.toNat
def k0_dev20 (d0 : Dev nD) : Nat :=
  let c0_i32_392 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_387 : BitVec 32 := 6#32
  let v487 : BitVec 32 := Scalar.addi v2 c6_i32_387
  let c8_i32_388 : BitVec 32 := 8#32
  let v488 : BitVec 32 := Scalar.remsi v487 c8_i32_388
  let c1_i32_391 : BitVec 32 := 1#32
  let v489 : BitVec 32 := Scalar.muli v488 c1_i32_391
  let v490 : BitVec 32 := Scalar.addi c0_i32_392 v489
  v490.toNat
def k0_dev21 (d0 : Dev nD) : Nat :=
  let c0_i32_402 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_397 : BitVec 32 := 7#32
  let v497 : BitVec 32 := Scalar.addi v2 c7_i32_397
  let c8_i32_398 : BitVec 32 := 8#32
  let v498 : BitVec 32 := Scalar.remsi v497 c8_i32_398
  let c1_i32_401 : BitVec 32 := 1#32
  let v499 : BitVec 32 := Scalar.muli v498 c1_i32_401
  let v500 : BitVec 32 := Scalar.addi c0_i32_402 v499
  v500.toNat
abbrev stage0_0 : Fin 1 → Memref sig .tc .vmem S256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x4x128x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x4x128x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x32x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x2048 : Shape := ⟨2, ![512, 2048]⟩
abbrev S2x128x32x64 : Shape := ⟨4, ![2, 128, 32, 64]⟩
abbrev S2048x512 : Shape := ⟨2, ![2048, 512]⟩
abbrev S2x128x2048 : Shape := ⟨3, ![2, 128, 2048]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S2x32x128x128 : Shape := ⟨4, ![2, 32, 128, 128]⟩
abbrev S1x1x128x128 : Shape := ⟨4, ![1, 1, 128, 128]⟩
abbrev S2x32x128 : Shape := ⟨3, ![2, 32, 128]⟩
abbrev S2x32x128x1 : Shape := ⟨4, ![2, 32, 128, 1]⟩
abbrev S1x1x128x1 : Shape := ⟨4, ![1, 1, 128, 1]⟩
abbrev S2x32x64x128 : Shape := ⟨4, ![2, 32, 64, 128]⟩

abbrev nBuf : Space → Nat
  | .hbm => 62
  | .vmem => 0
  | .smem => 0
  | _ => 0

abbrev bufTy : (tb : Table) → Fin (tcTables nBuf tb) → BufTy
  | .hbm, ⟨0, _⟩ => ⟨S2x128x512, .bf16⟩
  | .hbm, ⟨1, _⟩ => ⟨S512x2048, .bf16⟩
  | .hbm, ⟨2, _⟩ => ⟨S2x128x32x64, .bf16⟩
  | .hbm, ⟨3, _⟩ => ⟨S2x128x32x64, .bf16⟩
  | .hbm, ⟨4, _⟩ => ⟨S2048x512, .bf16⟩
  | .hbm, ⟨5, _⟩ => ⟨S2x128x2048, .f32⟩
  | .hbm, ⟨6, _⟩ => ⟨S2x128x2048, .bf16⟩
  | .hbm, ⟨7, _⟩ => ⟨S2x128x32x64, .bf16⟩
  | .hbm, ⟨8, _⟩ => ⟨S128, .i32⟩
  | .hbm, ⟨9, _⟩ => ⟨S128x1, .i32⟩
  | .hbm, ⟨10, _⟩ => ⟨S128, .i32⟩
  | .hbm, ⟨11, _⟩ => ⟨S1x128, .i32⟩
  | .hbm, ⟨12, _⟩ => ⟨S128x128, .i32⟩
  | .hbm, ⟨13, _⟩ => ⟨S128x128, .i32⟩
  | .hbm, ⟨14, _⟩ => ⟨S128x128, .i32⟩
  | .hbm, ⟨15, _⟩ => ⟨S128x128, .i32⟩
  | .hbm, ⟨16, _⟩ => ⟨S_, .i32⟩
  | .hbm, ⟨17, _⟩ => ⟨S128x128, .i32⟩
  | .hbm, ⟨18, _⟩ => ⟨S128x128, .i1⟩
  | .hbm, ⟨19, _⟩ => ⟨S2x32x128x128, .f32⟩
  | .hbm, ⟨20, _⟩ => ⟨S2x32x128x128, .bf16⟩
  | .hbm, ⟨21, _⟩ => ⟨S2x32x128x128, .f32⟩
  | .hbm, ⟨22, _⟩ => ⟨S_, .f32⟩
  | .hbm, ⟨23, _⟩ => ⟨S2x32x128x128, .f32⟩
  | .hbm, ⟨24, _⟩ => ⟨S2x32x128x128, .f32⟩
  | .hbm, ⟨25, _⟩ => ⟨S1x1x128x128, .i1⟩
  | .hbm, ⟨26, _⟩ => ⟨S_, .f32⟩
  | .hbm, ⟨27, _⟩ => ⟨S_, .f32⟩
  | .hbm, ⟨28, _⟩ => ⟨S2x32x128x128, .i1⟩
  | .hbm, ⟨29, _⟩ => ⟨S2x32x128x128, .f32⟩
  | .hbm, ⟨30, _⟩ => ⟨S2x32x128x128, .f32⟩
  | .hbm, ⟨31, _⟩ => ⟨S_, .f32⟩
  | .hbm, ⟨32, _⟩ => ⟨S2x32x128, .f32⟩
  | .hbm, ⟨33, _⟩ => ⟨S2x32x128x1, .f32⟩
  | .hbm, ⟨34, _⟩ => ⟨S2x32x128x128, .f32⟩
  | .hbm, ⟨35, _⟩ => ⟨S2x32x128x128, .f32⟩
  | .hbm, ⟨36, _⟩ => ⟨S2x32x128x128, .f32⟩
  | .hbm, ⟨37, _⟩ => ⟨S_, .i1⟩
  | .hbm, ⟨38, _⟩ => ⟨S128, .i1⟩
  | .hbm, ⟨39, _⟩ => ⟨S1x1x128x1, .i1⟩
  | .hbm, ⟨40, _⟩ => ⟨S_, .f32⟩
  | .hbm, ⟨41, _⟩ => ⟨S2x32x128, .f32⟩
  | .hbm, ⟨42, _⟩ => ⟨S2x32x128x1, .f32⟩
  | .hbm, ⟨43, _⟩ => ⟨S_, .f32⟩
  | .hbm, ⟨44, _⟩ => ⟨S_, .f32⟩
  | .hbm, ⟨45, _⟩ => ⟨S2x32x128x1, .i1⟩
  | .hbm, ⟨46, _⟩ => ⟨S2x32x128x1, .f32⟩
  | .hbm, ⟨47, _⟩ => ⟨S2x32x128x1, .f32⟩
  | .hbm, ⟨48, _⟩ => ⟨S2x32x128x128, .f32⟩
  | .hbm, ⟨49, _⟩ => ⟨S2x32x128x128, .f32⟩
  | .hbm, ⟨50, _⟩ => ⟨S1x1x128x1, .i1⟩
  | .hbm, ⟨51, _⟩ => ⟨S_, .f32⟩
  | .hbm, ⟨52, _⟩ => ⟨S_, .f32⟩
  | .hbm, ⟨53, _⟩ => ⟨S2x32x128x128, .i1⟩
  | .hbm, ⟨54, _⟩ => ⟨S2x32x128x128, .f32⟩
  | .hbm, ⟨55, _⟩ => ⟨S2x32x128x128, .f32⟩
  | .hbm, ⟨56, _⟩ => ⟨S2x128x32x64, .f32⟩
  | .hbm, ⟨57, _⟩ => ⟨S2x32x64x128, .f32⟩
  | .hbm, ⟨58, _⟩ => ⟨S2x128x32x64, .f32⟩
  | .hbm, ⟨59, _⟩ => ⟨S2x128x2048, .f32⟩
  | .hbm, ⟨60, _⟩ => ⟨S2048x512, .f32⟩
  | .hbm, ⟨61, _⟩ => ⟨S2x128x512, .f32⟩
  | _, _ => ⟨S2x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_2 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩

abbrev nD : Nat := 1
abbrev τ : Topo := Topo.v7x

variable {F : FTy → Type} [FloatOps F]
-- ==== Proof.Common.lean ====
/- What the eight devices' kernel computes, and the schedule its semaphores follow.

   Notation: device `c` has seven peers, `peer c r` for `r : Fin 7`, the device `r + 1` places further round the ring of
   eight. Device `c` is peer `rev r` of its peer `r`, where `rev r = 6 - r`.

   Semaphores of device `c`:
   * the barrier: each of the seven peers adds one unit, `c` waits for seven. The unit of peer `r` brings that peer's
     receive slot `r + 1` and that peer's gather slot `c`, both of which `c` will write;
   * family 0 at `r`: completion at the source of the copy of partial product to peer `r`;
   * family 1 at `r`: completion at the target of the copy that `c` receives into its receive slot `r + 1`,
     sent by `peer c (rev r)`;
   * family 2 at `r`: completion at the source of the copy of the reduced block to peer `r`;
   * family 3 at `r`: completion at the target of the reduced block of `peer c (rev r)` into gather slot
     `peer c (rev r)`. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import Idealize.ShloMosaic.Lib.Pipeline.Regions
public import Idealize.ShloMosaic.Lib.Pipeline.Kit
public import Idealize.ShloMosaic.Lib.Pipeline.TableIdle
public import Idealize.ShloMosaic.Lib.Pipeline.RegionTalk
public import Idealize.ShloMosaic.Lib.Rounds
public import Idealize.ShloMosaic.Lib.Transfers
public import Idealize.ShloMosaic.Lib.Writes
public import Idealize.ShloMosaic.Lib.WritesUnit
public import Idealize.ShloMosaic.Lib.StableHlo
public import Idealize.ShloMosaic.Lib.ValueIdxCore
public import Idealize.ShloMosaic.Lib.Tactic
public import Idealize.ShloMosaic.PureOps

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Idealize.ShloMosaic.ValueIdx (ix2 ix3)
open Idealize.ShloMosaic.Transfers (shareTok shareDrop)
open Cert.KernelIdeal Cert.KernelIdeal.Gen

variable {F : FTy → Type} [FloatOps F]

/-! ## Peers -/

/-- The device `r + 1` places after `c`. -/
def peer (c : Dev nD) (r : Fin 7) : Dev nD := ⟨(c.val + (r.val + 1)) % 8, Nat.mod_lt _ (by decide)⟩
/-- The number under which `c` is a peer of its peer `r`. -/
def rev (r : Fin 7) : Fin 7 := ⟨6 - r.val, by omega⟩

theorem rev_rev (r : Fin 7) : rev (rev r) = r := by revert r; decide
theorem peer_rev (c : Dev nD) (r : Fin 7) : peer (peer c r) (rev r) = c := by revert c r; decide
theorem peer_rev' (c : Dev nD) (r : Fin 7) : peer (peer c (rev r)) r = c := by revert c r; decide
theorem peer_ne (c : Dev nD) (r : Fin 7) : peer c r ≠ c := by revert c r; decide
theorem peer_inj (c : Dev nD) : Function.Injective (peer c) := by revert c; decide
/-- Moving every device to its peer `r` is a rearrangement of the devices. -/
def turn (r : Fin 7) : Dev nD ≃ Dev nD := ⟨fun c => peer c r, fun c => peer c (rev r), fun c => peer_rev c r, fun c => peer_rev' c r⟩

/-! ## What the kernel computes -/

variable (m : (ℓ : Loc nD τ sig) → Buf (Elt F) ℓ)

/-- The five operands of the kernel on device `c`, as the host operations before it leave them. -/
abbrev xIn (c : Dev nD) : Vec F S256x512 .bf16 := V1 m c main_v17
abbrev wqIn (c : Dev nD) : Vec F S512x256 .bf16 := V1 m c main_arg1
abbrev kIn (c : Dev nD) : Vec F S2x4x128x64 .bf16 := V1 m c main_v15
abbrev vIn (c : Dev nD) : Vec F S2x4x128x64 .bf16 := V1 m c main_v16
abbrev woIn (c : Dev nD) : Vec F S256x512 .bf16 := V1 m c main_arg4

omit [FloatOps F] in
theorem blk_inb (b : Fin 2) (h : Fin 4) : ∀ a, (![b.val, h.val, 0, 0] : Fin 4 → Nat) a + S1x1x128x64.size a ≤ S2x4x128x64.size a := by
  revert b h; decide
omit [FloatOps F] in
theorem tile_slices (b : Fin 2) (h : Fin 4) : S256x256.Slices ![128 * b.val, 64 * h.val] S128x64 := by
  revert b h; decide

/-- The key or value rows of batch `b`, head `h`. -/
def blk (k : Vec F S2x4x128x64 .bf16) (b : Fin 2) (h : Fin 4) : Vec F S1x1x128x64 .bf16 :=
  fun i => k ((Rect.unit (s := S2x4x128x64) ![b.val, h.val, 0, 0] S1x1x128x64.size (blk_inb b h)).emb i)

/-- The exponentials of a head's scores less their row maximum. -/
def headExp (q : FVec F S128x64 .f32) (kb : Vec F S1x1x128x64 .bf16) : FVec F S128x128 .f32 :=
  have s : FVec F S128x128 .f32 := matmul dot_S128x64_S128x64_S128x128_1_1_0_0_n_n none (truncf .bf16 q bitsLt_bf16_f32)
    (shapeCast S128x64 kb shapeCasts_S1x1x128x64_S128x64) (constant S128x128 .f32 0x00000000#32)
  exp (subf s (broadcastTo S128x128 (shapeCast S128x1 (multiReduction .maximumf [1] S128 s 0xFF800000#32 reduces_S128x128_S128 (.inl rfl) rfl)
    shapeCasts_S128_S128x1) broadcasts_S128x1_S128x128))

/-- One head's attention over its 128 rows: softmax of the scores times the values. -/
def head (q : FVec F S128x64 .f32) (kb vb : Vec F S1x1x128x64 .bf16) : FVec F S128x64 .f32 :=
  have p : FVec F S128x128 .f32 := headExp q kb
  matmul dot_S128x128_S128x64_S128x64_1_0_0_1_n_n none
    (truncf .bf16 (divf p (broadcastTo S128x128 (shapeCast S128x1
      (multiReduction .add [1] S128 p 0x00000000#32 reduces_S128x128_S128 (.inl rfl) rfl) shapeCasts_S128_S128x1) broadcasts_S128x1_S128x128)) bitsLt_bf16_f32)
    (shapeCast S128x64 vb shapeCasts_S1x1x128x64_S128x64) (constant S128x64 .f32 0x00000000#32)

/-- The attention output of batch `b`, local head `h`, from the operands. -/
def tile (x : Vec F S256x512 .bf16) (wq : Vec F S512x256 .bf16) (k v : Vec F S2x4x128x64 .bf16) (b : Fin 2) (h : Fin 4) : FVec F S128x64 .f32 :=
  head (extractStridedSlice S128x64 ![128 * b.val, 64 * h.val] (k0_pay1 x wq) (tile_slices b h)) (blk k b h) (blk v b h)

/-- The eight heads' outputs side by side: rows are (batch, position), columns are (head, feature). -/
def ctxOf (x : Vec F S256x512 .bf16) (wq : Vec F S512x256 .bf16) (k v : Vec F S2x4x128x64 .bf16) : Vec F S256x256 .f32 :=
  fun y => tile x wq k v ⟨(y (0 : Fin 2)).val / 128, Nat.div_lt_of_lt_mul (y (0 : Fin 2)).isLt⟩ ⟨(y (1 : Fin 2)).val / 64, Nat.div_lt_of_lt_mul (y (1 : Fin 2)).isLt⟩
    (ix2 ⟨(y (0 : Fin 2)).val % 128, Nat.mod_lt _ (by decide)⟩ ⟨(y (1 : Fin 2)).val % 64, Nat.mod_lt _ (by decide)⟩)

omit [FloatOps F] in
theorem rows_inb (t : Dev nD) : ∀ a, (![32 * t.val, 0] : Fin 2 → Nat) a + S32x256.size a ≤ S256x256.size a := by
  revert t; decide

/-- Rows `32 t … 32 t + 31`. -/
def rowsOf (x : Vec F S256x256 .f32) (t : Dev nD) : Vec F S32x256 .f32 :=
  fun i => x ((Rect.unit (s := S256x256) ![32 * t.val, 0] S32x256.size (rows_inb t)).emb i)

/-- Device `c`'s attention output. -/
def ctx (c : Dev nD) : Vec F S256x256 .f32 := ctxOf (xIn m c) (wqIn m c) (kIn m c) (vIn m c)

/-- The partial product device `c` sends device `t`: `t`'s rows of `c`'s attention output times `c`'s part of the output weights. -/
def part (c t : Dev nD) : Vec F S1x32x512 .bf16 := k0_pay19 (k0_pay17 (woIn m c)) (rowsOf (ctx m c) t)

/-- What device `c` receives into receive slot `r + 1`. -/
def got (c : Dev nD) (r : Fin 7) : Vec F S1x32x512 .bf16 := part m (peer c (rev r)) c

/-- Device `c`'s own partial product with the seven received ones added in order, rounded. -/
def red (c : Dev nD) : Vec F S1x32x512 .bf16 :=
  k0_pay29 (k0_pay27 (k0_pay26 (k0_pay17 (woIn m c)) (rowsOf (ctx m c) c) (got m c 0) (got m c 1)) (got m c 2) (got m c 3)) (k0_pay28 (got m c 4))
    (got m c 5) (got m c 6)

/-- All eight reduced blocks, block `d` from device `d`. -/
def gath : Vec F S8x32x512 .bf16 := fun y => red m (y (0 : Fin 3)) (ix3 (0 : Fin 1) (y (1 : Fin 3)) (y (2 : Fin 3)))

/-- The kernel's result, the same on every device. -/
def outV : Vec F S8x32x512 .f32 := k0_pay30 (gath m)

/-! ## Cells -/

/-- Semaphore of family `a` at `r`. -/
abbrev fsem (a : Fin 4) (r : Fin 7) : DmaSem sig := ⟨7 + 8 * a.val + r.val, by show _ < 38; omega⟩
abbrev barCell (c : Dev nD) : GSem nD τ sig := ((c : Thread nD τ), .reg barrier0)
abbrev fCell (c : Dev nD) (a : Fin 4) (r : Fin 7) : GSem nD τ sig := ((c : Thread nD τ), .dma (fsem a r))

/-- The role a semaphore plays. -/
inductive Role where
  | bar
  | fam (a : Fin 4) (r : Fin 7)
  | idle
deriving DecidableEq

/-- The role of each semaphore of a device. -/
def role : SemLoc sig → Role
  | .reg _ => .bar
  | .dma i => if h : 6 ≤ i.val ∧ (i.val - 6) % 8 ≠ 0 ∧ i.val < 38 then .fam ⟨(i.val - 6) / 8, by omega⟩ ⟨(i.val - 6) % 8 - 1, by omega⟩ else .idle

theorem role_bar : role (.reg barrier0) = .bar := rfl
theorem role_fam (a : Fin 4) (r : Fin 7) : role (.dma (fsem a r)) = .fam a r := by revert a r; decide
theorem fsem_inj : Function.Injective (fun p : Fin 4 × Fin 7 => fsem p.1 p.2) := by decide
theorem fam_ne_bar (a : Fin 4) (r : Fin 7) : (SemLoc.dma (fsem a r) : SemLoc sig) ≠ .reg barrier0 := fun h => by cases h

/-! ## Slots -/

abbrev ctxM : Memref sig .tc .vmem S256x256 .f32 := Memref.whole cc0_scratch0
abbrev partM : Memref sig .tc .vmem S8x32x512 .bf16 := Memref.whole cc0_scratch1
abbrev recvM : Memref sig .tc .vmem S8x32x512 .bf16 := Memref.whole cc0_scratch2
abbrev gathM : Memref sig .tc .vmem S8x32x512 .bf16 := Memref.whole cc0_scratch3

theorem slot_inb (j : Fin 8) : ∀ a, (![j.val, 0, 0] : Fin 3 → Nat) a + S1x32x512.size a ≤ S8x32x512.size a := by
  revert j; decide
/-- Block `j` of an 8 × 32 × 512 buffer. -/
abbrev slotR (j : Fin 8) : Rect S8x32x512 := Rect.unit (s := S8x32x512) ![j.val, 0, 0] S1x32x512.size (slot_inb j)
abbrev slot (M : Memref sig .tc .vmem S8x32x512 .bf16) (j : Fin 8) : Memref sig .tc .vmem S1x32x512 .bf16 := M.slice (slotR j) (fun _ => rfl)

/-- Receive slot of family index `r`. -/
abbrev rs (r : Fin 7) : Fin 8 := ⟨r.val + 1, by omega⟩

/-- The number of credits a block's transfer carries. -/
abbrev N : ℕ := (slot partM 0).view.dmaCredit
theorem N_pos : 0 < N := View.dmaCredit_pos _ (by decide)

/-! ## The resource algebra -/

abbrev U2 : Type := URounds (GSem nD τ sig) (Fin 7)
abbrev UU : Type := UR sig nD τ × U2

local notation "𝕄" => MT nD τ sig Unit (Elt F) ℕ UU ℕ

abbrev EP : Emb (UR sig nD τ) (MT nD τ sig Unit (Elt F) ℕ UU ℕ) := embL
abbrev ER : Emb U2 (MT nD τ sig Unit (Elt F) ℕ UU ℕ) := embR

/-- Device `c` holds block `j` of a buffer, whole, at contents `X`. -/
abbrev has (c : Dev nD) (M : Memref sig .tc .vmem S8x32x512 .bf16) (j : Fin 8) (q : PosShare TreeShare) (X : Vec F S1x32x512 .bf16) : sProp 𝕄 :=
  owns (c : Thread nD τ) (slot M j) q X
/-- The same at contents not named. -/
abbrev hasAny (c : Dev nD) (M : Memref sig .tc .vmem S8x32x512 .bf16) (j : Fin 8) : sProp 𝕄 := iprop(∃ X, has c M j fullShare X)

/-! ## The schedule -/

/-- What peer `r` of device `p` pays with its unit on `p`'s barrier: its receive slot `r + 1`, its gather slot `p`, and the
    word that the two target semaphores `p` will complete on are at their first round. -/
def barPay (p : Dev nD) (r : Fin 7) : sProp 𝕄 :=
  iprop(hasAny (peer p r) recvM (rs r) ∗ hasAny (peer p r) gathM p ∗ reached ER (fCell (peer p r) 1 r) 0 ∗ reached ER (fCell (peer p r) 3 r) 0)

/-- What the completion on each family pays its device. -/
def famPay (c : Dev nD) (a : Fin 4) (r : Fin 7) : sProp 𝕄 :=
  match a with
  | 0 => hasAny c partM (peer c r)
  | 1 => has c recvM (rs r) fullShare (got m c r)
  | 2 => has c gathM c (shareTok fullShare 7 r) (red m c)
  | 3 => has c gathM (peer c (rev r)) fullShare (red m (peer c (rev r)))

def payOf (c : Dev nD) (k : Role) (d : Fin 7) : sProp 𝕄 :=
  match k with
  | .bar => barPay c d
  | .fam a r => famPay m c a r
  | .idle => iprop(emp)

/-- One round on each cell: seven unit duties on a barrier, one transfer on each family's cell. -/
def Rd : Rounds.Schedule (GSem nD τ sig) (Fin 7) 𝕄 where
  duties g r := if r = 0 ∧ g.1.2 = .tc then (match role g.2 with | .bar => Finset.univ | .fam _ _ => {0} | .idle => ∅) else ∅
  unitless _ := False
  amount g _ _ := if role g.2 = .bar then 1 else N
  payload g _ d := payOf m g.1.1 (role g.2) d
  amount_pos g _ _ _ := by
    split
    · exact Nat.one_pos
    · exact N_pos

instance famPay_storable (c : Dev nD) (a : Fin 4) (r : Fin 7) : BI.Storable (upEmb : UEmb _ 𝕄) (famPay m c a r) := by
  unfold famPay; split <;> infer_instance
instance payOf_storable (c : Dev nD) (k : Role) (d : Fin 7) : BI.Storable (upEmb : UEmb _ 𝕄) (payOf m c k d) := by
  unfold payOf; split
  · unfold barPay; infer_instance
  · infer_instance
  · infer_instance
instance Rd_storable (g : GSem nD τ sig) (r : ℕ) (d : Fin 7) : BI.Storable (upEmb : UEmb _ 𝕄) ((Rd m).payload g r d) :=
  payOf_storable m g.1.1 (role g.2) d

section Tables

variable (c : Dev nD) (a : Fin 4) (r : Fin 7)

theorem duties_bar : (Rd m).duties (barCell c) 0 = Finset.univ := by
  dsimp only [Rd]; rw [if_pos ⟨rfl, rfl⟩, role_bar]
theorem duties_fam : (Rd m).duties (fCell c a r) 0 = {0} := by
  dsimp only [Rd]; rw [if_pos ⟨rfl, rfl⟩, role_fam]
theorem duties_later (g : GSem nD τ sig) : ∀ k, 1 ≤ k → (Rd m).duties g k = ∅ :=
  fun k hk => by dsimp only [Rd]; rw [if_neg (fun h => by omega)]
theorem amount_bar (d : Fin 7) : (Rd m).amount (barCell c) 0 d = 1 := by
  dsimp only [Rd]; rw [role_bar, if_pos rfl]
theorem amount_fam (d : Fin 7) : (Rd m).amount (fCell c a r) 0 d = N := by
  dsimp only [Rd]; rw [role_fam, if_neg (by rintro ⟨⟩)]
theorem payload_bar (d : Fin 7) : (Rd m).payload (barCell c) 0 d = barPay c d := by
  dsimp only [Rd]; rw [role_bar]; rfl
theorem payload_fam (d : Fin 7) : (Rd m).payload (fCell c a r) 0 d = famPay m c a r := by
  dsimp only [Rd]; rw [role_fam]; rfl
theorem expect_bar : (Rd m).expect (barCell c) 0 = 7 := by
  unfold Schedule.expect Schedule.amountOf
  rw [duties_bar, Finset.sum_congr rfl (fun d _ => amount_bar m c d)]; rfl
theorem expect_fam : (Rd m).expect (fCell c a r) 0 = N := by
  unfold Schedule.expect Schedule.amountOf; rw [duties_fam, Finset.sum_singleton, amount_fam]
theorem rest_bar : bigSep ((Rd m).duties (barCell c) 0 \ ∅) (fun d => (Rd m).payload (barCell c) 0 d) = bigSep Finset.univ (fun d => (barPay c d : sProp 𝕄)) := by
  rw [Finset.sdiff_empty, duties_bar]; exact bigSep_congr fun d _ => payload_bar m c d
theorem rest_fam : bigSep ((Rd m).duties (fCell c a r) 0 \ ∅) (fun d => (Rd m).payload (fCell c a r) 0 d) = famPay m c a r := by
  rw [Finset.sdiff_empty, duties_fam, bigSep_singleton, payload_fam]

end Tables

/-! ## What a core owes at launch; the levels -/

/-- The credit of peer `r`'s cell of family `a`. -/
abbrev fDue (c : Dev nD) (a : Fin 4) (r : Fin 7) : CellTallies nD τ sig Unit := tallyAt (fCell (peer c r) a r) () N
abbrev bDue (c : Dev nD) (r : Fin 7) : CellTallies nD τ sig Unit := tallyAt (barCell (peer c r)) () 1

/-- Seven dues on top of `b`, the first to be paid last in the sum. -/
abbrev seven (f : Fin 7 → CellTallies nD τ sig Unit) (b : CellTallies nD τ sig Unit) : CellTallies nD τ sig Unit :=
  b + f 6 + f 5 + f 4 + f 3 + f 2 + f 1 + f 0

/-- What device `c` still owes before its gather copies, before its scatter copies, and at the start. -/
abbrev owedG (c : Dev nD) : CellTallies nD τ sig Unit := seven (fDue c 3) 0
abbrev owedS (c : Dev nD) : CellTallies nD τ sig Unit := seven (fDue c 1) (owedG c)
abbrev O₀ (c : Dev nD) : CellTallies nD τ sig Unit := seven (bDue c) (owedS c)

def L (g : GSem nD τ sig) : Finset Unit := if g.1.2 = .tc then {()} else ∅
/-- Barrier 1, receive cells of the first exchange 2, of the second 3, all others 0. -/
def lv (g : GSem nD τ sig) (_ : Unit) : ℕ :=
  match role g.2 with
  | .bar => 1
  | .fam a _ => if a = 1 then 2 else if a = 3 then 3 else 0
  | .idle => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_fam1 (c : Dev nD) (r : Fin 7) (u : Unit) : lv (fCell c 1 r) u = 2 := by dsimp only [lv]; rw [role_fam]; rfl
theorem lv_fam3 (c : Dev nD) (r : Fin 7) (u : Unit) : lv (fCell c 3 r) u = 3 := by dsimp only [lv]; rw [role_fam]; rfl

omit [FloatOps F] in
/-- An amount owed in a sum of seven is owed by one of them or by the rest. -/
theorem seven_pos {f : Fin 7 → CellTallies nD τ sig Unit} {b : CellTallies nD τ sig Unit} {g : GSem nD τ sig} {u : Unit}
    (h : 0 < seven f b g u) : 0 < b g u ∨ ∃ r, 0 < f r g u := by
  unfold seven at h
  simp only [Pi.add_apply, Finsupp.add_apply] at h
  by_contra hn
  simp only [not_or, not_exists, Nat.not_lt, Nat.le_zero] at hn
  obtain ⟨hb, hf⟩ := hn
  have := hf 0; have := hf 1; have := hf 2; have := hf 3; have := hf 4; have := hf 5; have := hf 6
  omega
theorem at_pos {g g' : GSem nD τ sig} {n : ℕ} {u : Unit} (h : 0 < (tallyAt g' () n : CellTallies nD τ sig Unit) g u) : g = g' := by
  rw [tallyAt_apply] at h
  by_contra hn
  rw [if_neg (fun h' => hn h'.1)] at h
  exact absurd h (Nat.lt_irrefl 0)
theorem owedG_pos {c : Dev nD} {g : GSem nD τ sig} {u : Unit} (h : 0 < owedG c g u) : ∃ r, g = fCell (peer c r) 3 r := by
  rcases seven_pos h with h | ⟨r, h⟩
  · exact absurd h (Nat.lt_irrefl 0)
  · exact ⟨r, at_pos h⟩
theorem owedS_pos {c : Dev nD} {g : GSem nD τ sig} {u : Unit} (h : 0 < owedS c g u) :
    (∃ r, g = fCell (peer c r) 3 r) ∨ ∃ r, g = fCell (peer c r) 1 r := by
  rcases seven_pos h with h | ⟨r, h⟩
  · exact .inl (owedG_pos h)
  · exact .inr ⟨r, at_pos h⟩
theorem O₀_pos {c : Dev nD} {g : GSem nD τ sig} {u : Unit} (h : 0 < O₀ c g u) :
    ((∃ r, g = fCell (peer c r) 3 r) ∨ ∃ r, g = fCell (peer c r) 1 r) ∨ ∃ r, g = barCell (peer c r) := by
  rcases seven_pos h with h | ⟨r, h⟩
  · exact .inl (owedS_pos h)
  · exact .inr ⟨r, at_pos h⟩

/-- A device may wait on its barrier while it owes the copies of both exchanges, -/
theorem mayWait_bar (c : Dev nD) : (levAts L lv : sProp 𝕄) ⊢ MayWait (c : Thread nD τ) (.reg barrier0) () (owedS c) :=
  MayOwe.of_cut (L := L) (lev := lv) 1 (fun p hp => by rw [Finset.mem_singleton.mp hp, L_tc]; exact Finset.mem_singleton_self _)
    (fun g u hg => by
      rcases owedS_pos hg with ⟨r, rfl⟩ | ⟨r, rfl⟩ <;> rw [L_tc] <;> exact Finset.mem_singleton_self _)
    (fun p hp => by rw [Finset.mem_singleton.mp hp]; exact Nat.le_of_eq (lv_bar c ()))
    (fun g u hg => by
      rcases owedS_pos hg with ⟨r, rfl⟩ | ⟨r, rfl⟩
      · rw [lv_fam3]; decide
      · rw [lv_fam1]; decide)

/-- and on a receive cell of the first exchange while it owes those of the second. -/
theorem mayWait_recv (c : Dev nD) (r : Fin 7) : (levAts L lv : sProp 𝕄) ⊢ MayWait (c : Thread nD τ) (.dma (fsem 1 r)) () (owedG c) :=
  MayOwe.of_cut (L := L) (lev := lv) 2 (fun p hp => by rw [Finset.mem_singleton.mp hp, L_tc]; exact Finset.mem_singleton_self _)
    (fun g u hg => by obtain ⟨r, rfl⟩ := owedG_pos hg; rw [L_tc]; exact Finset.mem_singleton_self _)
    (fun p hp => by rw [Finset.mem_singleton.mp hp]; exact Nat.le_of_eq (lv_fam1 c r ()))
    (fun g u hg => by obtain ⟨r, rfl⟩ := owedG_pos hg; rw [lv_fam3]; decide)

end Cert.KernelIdeal.Run

end
-- ==== Proof.Steps.lean ====
/- One rule per effect of the kernel's body: a store into or a load of a block of a buffer, a signal of a peer's barrier, the
   barrier wait, the two kinds of remote copy, and the wait for a copy. Each is stated for any program text that names the
   device, the offsets and the semaphore by terms equal to the ones meant. -/
module

public import proofs.«01_k».proof.Proof.Common

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Idealize.ShloMosaic.ValueIdx (ix2 ix3)
open Idealize.ShloMosaic.Transfers (shareTok shareDrop)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

abbrev 𝒱₀ : Variants := Variants.none

/-- The core owes `O`, whatever it has waited on. -/
abbrev owesAny (c : Dev nD) (O : CellTallies nD τ sig Unit) : sProp 𝕄 := iprop(∃ W, owes (c : Thread nD τ) O W)

/-- What every device may consult: each cell's invariant, and that each barrier is at its first round. -/
def records (κ : GSem nD τ sig → ℕ) : sProp 𝕄 :=
  iprop((bigSep Finset.univ fun c : Dev nD => cellInv ER (Rd m) (κ (barCell c)) (barCell c))
    ∗ (bigSep Finset.univ fun p : Dev nD × Fin 4 × Fin 7 => cellInv ER (Rd m) (κ (fCell p.1 p.2.1 p.2.2)) (fCell p.1 p.2.1 p.2.2))
    ∗ bigSep Finset.univ fun c : Dev nD => reached ER (barCell c) 0)
instance records_persistent (κ : GSem nD τ sig → ℕ) : BI.Persistent (records m κ) := by unfold records; infer_instance

/-- Each of device `c`'s own copy semaphores is at its first round. -/
def openedAll (c : Dev nD) : sProp 𝕄 := bigSep Finset.univ fun p : Fin 4 × Fin 7 => reached ER (fCell c p.1 p.2) 0
instance openedAll_persistent (c : Dev nD) : BI.Persistent (openedAll (F := F) c) := by unfold openedAll; infer_instance

theorem records_bar (κ : GSem nD τ sig → ℕ) (c : Dev nD) : records m κ ⊢ cellInv ER (Rd m) (κ (barCell c)) (barCell c) := by
  unfold records
  refine BIBase.Entails.trans ?_ (bigSep_elim (Φ := fun c : Dev nD => cellInv ER (Rd m) (κ (barCell c)) (barCell c)) (Finset.mem_univ c))
  iintro ⟨H, -, -⟩; iexact H
theorem records_fam (κ : GSem nD τ sig → ℕ) (c : Dev nD) (a : Fin 4) (r : Fin 7) :
    records m κ ⊢ cellInv ER (Rd m) (κ (fCell c a r)) (fCell c a r) := by
  unfold records
  refine BIBase.Entails.trans ?_ (bigSep_elim (Φ := fun p : Dev nD × Fin 4 × Fin 7 => cellInv ER (Rd m) (κ (fCell p.1 p.2.1 p.2.2)) (fCell p.1 p.2.1 p.2.2))
    (Finset.mem_univ (c, a, r)))
  iintro ⟨-, H, -⟩; iexact H
theorem records_reached (κ : GSem nD τ sig → ℕ) (c : Dev nD) : records m κ ⊢ reached ER (barCell c) 0 := by
  unfold records
  refine BIBase.Entails.trans ?_ (bigSep_elim (Φ := fun c : Dev nD => (reached ER (barCell c) 0 : sProp 𝕄)) (Finset.mem_univ c))
  iintro ⟨-, -, H⟩; iexact H
omit [FloatOps F] in
theorem openedAll_at (c : Dev nD) (a : Fin 4) (r : Fin 7) : openedAll (F := F) c ⊢ reached ER (fCell c a r) 0 := by
  unfold openedAll
  exact bigSep_elim (Φ := fun p : Fin 4 × Fin 7 => (reached ER (fCell c p.1 p.2) 0 : sProp 𝕄)) (Finset.mem_univ (a, r))

/-- What a device may consult all along: the records, the levels of its waits, and its own copy semaphores' first rounds. -/
def env (κ : GSem nD τ sig → ℕ) (c : Dev nD) : sProp 𝕄 := iprop(records m κ ∗ levAts L lv ∗ openedAll (F := F) c)
instance env_persistent (κ : GSem nD τ sig → ℕ) (c : Dev nD) : BI.Persistent (env m κ c) := by unfold env; infer_instance

/-- What the signal of peer `r` spends: its token and the two slots handed over. -/
def sigR (c : Dev nD) (r : Fin 7) : sProp 𝕄 :=
  iprop(dutyTok ER (barCell (peer c r)) 0 (rev r) ∗ hasAny c recvM (rs (rev r)) ∗ hasAny c gathM (peer c r))
/-- What the copy of a partial product to peer `r` spends beside its source. -/
def scat (c : Dev nD) (r : Fin 7) : sProp 𝕄 :=
  iprop(hasAny (peer c r) recvM (rs r) ∗ dutyTok ER (fCell c 0 r) 0 0 ∗ dutyTok ER (fCell (peer c r) 1 r) 0 0 ∗ reached ER (fCell (peer c r) 1 r) 0)
/-- What the copy of the reduced block to peer `r` spends beside its source. -/
def gat (c : Dev nD) (r : Fin 7) : sProp 𝕄 :=
  iprop(hasAny (peer c r) gathM c ∗ dutyTok ER (fCell c 2 r) 0 0 ∗ dutyTok ER (fCell (peer c r) 3 r) 0 0 ∗ reached ER (fCell (peer c r) 3 r) 0)
/-- A semaphore to be waited on: its credits and its waiter's place. -/
def due (c : Dev nD) (a : Fin 4) (r : Fin 7) : sProp 𝕄 := iprop(cred (tallyAt (fCell c a r) () N) ∗ atPos ER (fCell c a r) 0 ∅ 0)

section Steps

variable {α : Type} {Q : α → sProp (MT nD τ sig Unit (Elt F) ℕ UU ℕ)} {k : PUnit → Prog (TpuEff nD τ sig (Elt F) Λ₀ .tc) α}
variable (c : Dev nD)

/-- A store over a rectangle of a memref, held as the memref's slice. -/
theorem step_put {s : Shape} {e : EltTy} (M : Memref sig .tc .vmem s e) {n : Fin s.rank → ℕ} {o o' : Fin s.rank → ℕ} (ho : o = o')
    {hi : ∀ a, o a + n a ≤ s.size a} (hi' : ∀ a, o' a + n a ≤ s.size a) (X : Vec F (Rect.unit (s := s) o' n hi').shape e)
    {w : Vec F (Rect.unit (s := s) o n hi).shape e} (hw : HEq w X)
    {hx : (M.access (Rect.unit (s := s) o n hi)).Stores Finset.univ} {hm} :
    iprop(∃ Y, owns (c : Thread nD τ) (M.slice (Rect.unit (s := s) o' n hi') (fun _ => rfl)) fullShare Y)
      ⊢ iprop((owns (c : Thread nD τ) (M.slice (Rect.unit (s := s) o' n hi') (fun _ => rfl)) fullShare X -∗ wp frame (wpE (defs₀ (F := F)) 𝒱₀ (c : Thread nD τ) none) Set.univ (k ⟨⟩) Q)
      -∗ wp frame (wpE (defs₀ (F := F)) 𝒱₀ (c : Thread nD τ) none) Set.univ (.op (.store M (Rect.unit (s := s) o n hi) w Finset.univ hx hm) k) Q) := by
  subst ho
  obtain rfl := eq_of_heq hw
  iintro ⟨%X, H⟩ Hk
  unfold owns
  icases H with ⟨%f, -, H⟩
  iapply (wp_store 𝒱₀ (c : Thread nD τ) none Set.univ (m := M) (r := Rect.unit (s := s) o n hi) (Mk := Finset.univ)
    (S := (M.slice (Rect.unit (s := s) o n hi) (fun _ => rfl)).view.set) (by rw [View.setOn_univ])) $$ H
  iintro H
  iapply Hk
  iexists _
  isplitr
  · ipureintro; exact View.read_write_univ (v := M.access (Rect.unit (s := s) o n hi)) f w
  iexact H

/-- A load of a rectangle of a memref held as the memref's slice, whose value is not used. -/
theorem step_see {s : Shape} {e : EltTy} (M : Memref sig .tc .vmem s e) {n : Fin s.rank → ℕ} {o o' : Fin s.rank → ℕ} (ho : o = o')
    {hi : ∀ a, o a + n a ≤ s.size a} (hi' : ∀ a, o' a + n a ≤ s.size a)
    {hl : M.view.LoadsAt (Rect.unit (s := s) o n hi).toLoadRect} {p : Prog (TpuEff nD τ sig (Elt F) Λ₀ .tc) α} :
    iprop(∃ Y, owns (c : Thread nD τ) (M.slice (Rect.unit (s := s) o' n hi') (fun _ => rfl)) fullShare Y)
      ⊢ iprop((iprop(∃ Y, owns (c : Thread nD τ) (M.slice (Rect.unit (s := s) o' n hi') (fun _ => rfl)) fullShare Y) -∗ wp frame (wpE (defs₀ (F := F)) 𝒱₀ (c : Thread nD τ) none) Set.univ p Q)
      -∗ wp frame (wpE (defs₀ (F := F)) 𝒱₀ (c : Thread nD τ) none) Set.univ (.op (.load M (Rect.unit (s := s) o n hi).toLoadRect hl) (fun _ => p)) Q) := by
  subst ho
  iintro ⟨%X, H⟩ Hk
  unfold owns
  icases H with ⟨%f, %hf, H⟩
  iapply (wp_load_rect 𝒱₀ (c : Thread nD τ) none Set.univ (m := M) (S := (M.slice (Rect.unit (s := s) o n hi) (fun _ => rfl)).view.set)
    (r := Rect.unit (s := s) o n hi) (Finset.Subset.refl _)) $$ H
  iintro H
  iapply Hk
  iexists X, f
  isplitr
  · ipureintro; exact hf
  iexact H

/-- A load of a rectangle of a memref held whole. -/
theorem step_get {s : Shape} {e : EltTy} (M : Memref sig .tc .vmem s e) (q : PosShare TreeShare) (X : Vec F s e) {n : Fin s.rank → ℕ} {o o' : Fin s.rank → ℕ}
    (ho : o = o') {hi : ∀ a, o a + n a ≤ s.size a} (hi' : ∀ a, o' a + n a ≤ s.size a)
    {hl : M.view.LoadsAt (Rect.unit (s := s) o n hi).toLoadRect}
    (Y : Vec F ⟨s.rank, n⟩ e) (hY : Y = fun i => X ((Rect.unit (s := s) o' n hi').emb i))
    {k : Vec F ⟨s.rank, n⟩ e → Prog (TpuEff nD τ sig (Elt F) Λ₀ .tc) α} :
    owns (c : Thread nD τ) M q X ⊢ iprop((owns (c : Thread nD τ) M q X -∗ wp frame (wpE (defs₀ (F := F)) 𝒱₀ (c : Thread nD τ) none) Set.univ (k Y) Q)
      -∗ wp frame (wpE (defs₀ (F := F)) 𝒱₀ (c : Thread nD τ) none) Set.univ (.op (.load M (Rect.unit (s := s) o n hi).toLoadRect hl) k) Q) := by
  subst ho hY
  iintro H Hk
  unfold owns
  icases H with ⟨%f, %hf, H⟩
  iapply (wp_load_rect 𝒱₀ (c : Thread nD τ) none Set.univ (m := M) (S := M.view.set) (r := Rect.unit (s := s) o n hi)
    (by intro x hx; exact M.view.set_slice_subset _ hx)) $$ H
  iintro H
  rw [show (M.access (Rect.unit (s := s) o n hi)).read (Elt F) f = (fun i => X ((Rect.unit (s := s) o n hi).emb i)) from by rw [← hf]; rfl]
  iapply Hk
  iexists f
  isplitr
  · ipureintro; exact hf
  iexact H

/-- A load of a memref entire. -/
theorem step_getAll {s : Shape} {e : EltTy} (M : Memref sig .tc .vmem s e) (q : PosShare TreeShare) (X : Vec F s e) {o : Fin s.rank → ℕ}
    (ho : o = fun _ => 0) {hi : ∀ a, o a + s.size a ≤ s.size a}
    {hl : M.view.LoadsAt (Rect.unit (s := s) o s.size hi).toLoadRect}
    {k : Vec F s e → Prog (TpuEff nD τ sig (Elt F) Λ₀ .tc) α} :
    owns (c : Thread nD τ) M q X ⊢ iprop((owns (c : Thread nD τ) M q X -∗ wp frame (wpE (defs₀ (F := F)) 𝒱₀ (c : Thread nD τ) none) Set.univ (k X) Q)
      -∗ wp frame (wpE (defs₀ (F := F)) 𝒱₀ (c : Thread nD τ) none) Set.univ (.op (.load M (Rect.unit (s := s) o s.size hi).toLoadRect hl) k) Q) := by
  subst ho
  have h : (fun i => X ((Rect.unit (s := s) (fun _ => 0) s.size hi).emb i)) = X := by
    funext i; refine congrArg X (funext fun a => Fin.ext ?_)
    show 0 + 1 * (i a).val = (i a).val
    omega
  exact step_get (Q := Q) (k := k) (hl := hl) c M q X rfl hi X h.symm

/-- A store over a memref entire. -/
theorem step_putAll {s : Shape} {e : EltTy} (M : Memref sig .tc .vmem s e) {o : Fin s.rank → ℕ} (ho : o = fun _ => 0) {hi : ∀ a, o a + s.size a ≤ s.size a}
    {w : Vec F s e} {hx : (M.access (Rect.unit (s := s) o s.size hi)).Stores Finset.univ} {hm} :
    iprop(∃ Y, owns (c : Thread nD τ) M fullShare Y) ⊢ iprop((owns (c : Thread nD τ) M fullShare w -∗ wp frame (wpE (defs₀ (F := F)) 𝒱₀ (c : Thread nD τ) none) Set.univ (k ⟨⟩) Q)
      -∗ wp frame (wpE (defs₀ (F := F)) 𝒱₀ (c : Thread nD τ) none) Set.univ (.op (.store M (Rect.unit (s := s) o s.size hi) w Finset.univ hx hm) k) Q) := by
  subst ho
  iintro ⟨%X, H⟩ Hk
  unfold owns
  icases H with ⟨%f, -, H⟩
  iapply (wp_store 𝒱₀ (c : Thread nD τ) none Set.univ (m := M) (r := Rect.unit (s := s) (fun _ => 0) s.size hi) (Mk := Finset.univ)
    (S := M.view.set) (by rw [View.setOn_univ]; intro x hx; exact M.view.set_slice_subset _ hx)) $$ H
  iintro H
  iapply Hk
  iexists _
  isplitr
  · ipureintro
    have h : ∀ g, M.view.read (Elt F) g = (M.access (Rect.unit (s := s) (fun _ => 0) s.size hi)).read (Elt F) g := by
      intro g; funext i
      show M.view.read (Elt F) g i = M.view.read (Elt F) g ((Rect.unit (s := s) (fun _ => 0) s.size hi).emb i)
      refine congrArg _ (funext fun a => Fin.ext ?_)
      show (i a).val = 0 + 1 * (i a).val
      omega
    rw [h]
    exact View.read_write_univ (v := M.access (Rect.unit (s := s) (fun _ => 0) s.size hi)) f w
  iexact H

/-- A store over a whole block. -/
theorem step_store (M : Memref sig .tc .vmem S8x32x512 .bf16) (j : Fin 8) {o : Fin 3 → ℕ} (ho : o = ![j.val, 0, 0])
    {hi : ∀ a, o a + S1x32x512.size a ≤ S8x32x512.size a} {w : Vec F S1x32x512 .bf16}
    {hx : (M.access (Rect.unit (s := S8x32x512) o S1x32x512.size hi)).Stores Finset.univ} {hm} :
    hasAny c M j ⊢ iprop((has c M j fullShare w -∗ wp frame (wpE (defs₀ (F := F)) 𝒱₀ (c : Thread nD τ) none) Set.univ (k ⟨⟩) Q)
      -∗ wp frame (wpE (defs₀ (F := F)) 𝒱₀ (c : Thread nD τ) none) Set.univ (.op (.store M (Rect.unit (s := S8x32x512) o S1x32x512.size hi) w Finset.univ hx hm) k) Q) := by
  subst ho
  iintro ⟨%X, H⟩ Hk
  unfold has owns
  icases H with ⟨%f, -, H⟩
  iapply (wp_store 𝒱₀ (c : Thread nD τ) none Set.univ (m := M) (r := slotR j) (Mk := Finset.univ) (S := (slot M j).view.set) (by rw [View.setOn_univ])) $$ H
  iintro H
  iapply Hk
  iexists _
  isplitr
  · ipureintro; exact View.read_write_univ (v := M.access (slotR j)) f w
  iexact H

/-- A load of a whole block. -/
theorem step_load (M : Memref sig .tc .vmem S8x32x512 .bf16) (j : Fin 8) (q : PosShare TreeShare) (X : Vec F S1x32x512 .bf16) {o : Fin 3 → ℕ}
    (ho : o = ![j.val, 0, 0]) {hi : ∀ a, o a + S1x32x512.size a ≤ S8x32x512.size a}
    {hl : M.view.LoadsAt (Rect.unit (s := S8x32x512) o S1x32x512.size hi).toLoadRect}
    {k : Vec F S1x32x512 .bf16 → Prog (TpuEff nD τ sig (Elt F) Λ₀ .tc) α} :
    has c M j q X ⊢ iprop((has c M j q X -∗ wp frame (wpE (defs₀ (F := F)) 𝒱₀ (c : Thread nD τ) none) Set.univ (k X) Q)
      -∗ wp frame (wpE (defs₀ (F := F)) 𝒱₀ (c : Thread nD τ) none) Set.univ (.op (.load M (Rect.unit (s := S8x32x512) o S1x32x512.size hi).toLoadRect hl) k) Q) := by
  subst ho
  iintro H Hk
  unfold has owns
  icases H with ⟨%f, %hf, H⟩
  iapply (wp_load_rect 𝒱₀ (c : Thread nD τ) none Set.univ (m := M) (S := (slot M j).view.set) (r := slotR j) (Finset.Subset.refl _)) $$ H
  iintro H
  rw [show (M.access (slotR j)).read (Elt F) f = X from hf]
  iapply Hk
  iexists _
  isplitr
  · ipureintro; exact hf
  iexact H

/-- A load of a whole block whose value is not used. -/
theorem step_peek (M : Memref sig .tc .vmem S8x32x512 .bf16) (j : Fin 8) {o : Fin 3 → ℕ}
    (ho : o = ![j.val, 0, 0]) {hi : ∀ a, o a + S1x32x512.size a ≤ S8x32x512.size a}
    {hl : M.view.LoadsAt (Rect.unit (s := S8x32x512) o S1x32x512.size hi).toLoadRect}
    {p : Prog (TpuEff nD τ sig (Elt F) Λ₀ .tc) α} :
    hasAny c M j ⊢ iprop((hasAny c M j -∗ wp frame (wpE (defs₀ (F := F)) 𝒱₀ (c : Thread nD τ) none) Set.univ p Q)
      -∗ wp frame (wpE (defs₀ (F := F)) 𝒱₀ (c : Thread nD τ) none) Set.univ (.op (.load M (Rect.unit (s := S8x32x512) o S1x32x512.size hi).toLoadRect hl) (fun _ => p)) Q) := by
  iintro ⟨%X, H⟩ Hk
  iapply (step_load c M j fullShare X ho) $$ H
  iintro H
  iapply Hk
  iexists X; iexact H

/-- A signal of peer `r`'s barrier: hands it the receive and gather slots it will write on `c`. -/
theorem step_signal (κ : GSem nD τ sig → ℕ) (r : Fin 7) {n : Dev nD} (hn : n = peer c r) {s : Sem sig} (hs : s = barrier0) {u : ℕ} (hu : u = 1)
    (O : CellTallies nD τ sig Unit) :
    env m κ c ⊢ iprop(owesAny c (O + bDue c r) -∗ sigR c r -∗ (owesAny c O -∗ wp frame (wpE (defs₀ (F := F)) 𝒱₀ (c : Thread nD τ) none) Set.univ (k ⟨⟩) Q) -∗ wp frame (wpE (defs₀ (F := F)) 𝒱₀ (c : Thread nD τ) none) Set.univ (.op (.semSignal (Dev.tc n : Thread nD τ) s u) k) Q) := by
  subst hn hs hu
  unfold env sigR
  iintro ⟨#HR, #HL, #HO⟩ ⟨%W, Ho⟩ ⟨Ht, Hr, Hg⟩ Hk
  iapply (Rounds.wp_signal 𝒱₀ ER (Rd m) (c : Thread nD τ) none (dst := (peer c r : Thread nD τ)) (sem := barrier0) (r := 0) (d := rev r)
      (κ := κ (barCell (peer c r))) (by rw [duties_bar]; exact Finset.mem_univ _) (amount_bar m (peer c r) (rev r)) () O rfl (W := W)) $$ [Ho Ht Hr Hg]
  · isplitr; · iapply (records_bar m κ (peer c r)); iexact HR
    isplitl [Ho]; · iexact Ho
    isplitl [Ht]; · iexact Ht
    isplitl [Hr Hg]
    · rw [payload_bar]; unfold barPay; rw [peer_rev]
      isplitl [Hr]; · iexact Hr
      isplitl [Hg]; · iexact Hg
      isplitr; · iapply (openedAll_at c 1 (rev r)); iexact HO
      iapply (openedAll_at c 3 (rev r)); iexact HO
    · iapply (records_reached m κ (peer c r)); iexact HR
  iintro Ho
  iapply Hk
  iexists W; iexact Ho

/-- The barrier wait: every peer's two slots for `c` arrive. -/
theorem step_barrier (κ : GSem nD τ sig → ℕ) {s : Sem sig} (hs : s = barrier0) {u : ℕ} (hu : u = 7) :
    env m κ c ⊢ iprop(owesAny c (owedS c) -∗ cred (tallyAt (barCell c) () 7) -∗ atPos ER (barCell c) 0 ∅ 0 -∗ (iprop(owesAny c (owedS c) ∗ atPos ER (barCell c) (0 + 1) ∅ 0 ∗ bigSep Finset.univ (fun d => (barPay c d : sProp 𝕄))) -∗ wp frame (wpE (defs₀ (F := F)) 𝒱₀ (c : Thread nD τ) none) Set.univ (k ⟨⟩) Q)
        -∗ wp frame (wpE (defs₀ (F := F)) 𝒱₀ (c : Thread nD τ) none) Set.univ (.op (.semWait s u) k) Q) := by
  subst hs hu
  unfold env
  iintro ⟨#HR, #HL, #HO⟩ ⟨%W, Ho⟩ Hc Hat Hk
  iapply (Rounds.wp_wait_rest_token 𝒱₀ ER (Rd m) (c : Thread nD τ) none (κ := κ (barCell c))
      (wpE_semWait_eq 𝒱₀ (c : Thread nD τ) none Set.univ) (Set.mem_univ _) () (O := owedS c) (W := W) (R := 0) (m := 0) (T := ∅)
      ((Nat.zero_add 7).trans (expect_bar m c).symm)) $$ [Hc Ho Hat]
  · isplitr; · iapply (records_bar m κ c); iexact HR
    isplitl [Hc]; · iexact Hc
    isplitl [Ho]; · iexact Ho
    isplitr; · iapply (mayWait_bar c); iexact HL
    iexact Hat
  iintro ⟨Ho, Hat, -, Hp⟩
  iapply Hk
  isplitl [Ho]; · iexists _; iexact Ho
  isplitl [Hat]; · iexact Hat
  iapply (Entails.of_eq (rest_bar m c)); iexact Hp

/-- The wait for a copy on the semaphore of family `a` at `r`. -/
theorem step_wait (κ : GSem nD τ sig → ℕ) (a : Fin 4) (r : Fin 7) {s : DmaSem sig} (hs : s = fsem a r) (O : CellTallies nD τ sig Unit)
    (hW : (levAts L lv : sProp 𝕄) ⊢ MayWait (c : Thread nD τ) (.dma (fsem a r)) () O)
    {src dst : Memref sig .tc .vmem S1x32x512 .bf16} (hN : dst.view.dmaCredit = N) {h₁ : src.view.WordExact} {h₂ : dst.view.WordExact} :
    env m κ c ⊢ iprop(owesAny c O -∗ due c a r -∗ (iprop(owesAny c O ∗ atPos ER (fCell c a r) (0 + 1) ∅ 0 ∗ famPay m c a r) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 s src dst h₁ h₂) k) Q) := by
  subst hs
  unfold env due
  iintro ⟨#HR, #HL, #HO⟩ ⟨%W, Ho⟩ ⟨Hc, Hat⟩ Hk
  iapply (Rounds.wp_wait_rest_token 𝒱₀ ER (Rd m) (c : Thread nD τ) none (κ := κ (fCell c a r))
      (wpE_waitDma2_eq (src := src) (dst := dst) 𝒱₀ (c : Thread nD τ) none Set.univ) (Set.mem_univ _) () (O := O) (W := W) (R := 0) (m := 0) (T := ∅)
      ((Nat.zero_add _).trans (hN.trans (expect_fam m c a r).symm))) $$ [Hc Ho Hat]
  · isplitr; · iapply (records_fam m κ c a r); iexact HR
    isplitl [Hc]; · rw [hN]; iexact Hc
    isplitl [Ho]; · iexact Ho
    isplitr; · iapply hW; iexact HL
    iexact Hat
  iintro ⟨Ho, Hat, -, Hp⟩
  iapply Hk
  isplitl [Ho]; · iexists _; iexact Ho
  isplitl [Hat]; · iexact Hat
  iapply (Entails.of_eq (rest_fam m c a r)); iexact Hp

omit [FloatOps F] in
/-- Owing nothing, any wait is allowed. -/
theorem mayWait_none (sm : SemLoc sig) : (levAts L lv : sProp 𝕄) ⊢ MayWait (c : Thread nD τ) sm () (0 : CellTallies nD τ sig Unit) := by
  rw [MayWait_zero]; iintro -; iempintro

/-- The copy of a partial product to peer `r`'s receive slot. -/
theorem step_scatter (κ : GSem nD τ sig → ℕ) (r : Fin 7) {n : Dev nD} (hn : n = peer c r)
    {o : Fin 3 → ℕ} (ho : o = ![(peer c r).val, 0, 0]) {hi : ∀ a, o a + S1x32x512.size a ≤ S8x32x512.size a}
    {o' : Fin 3 → ℕ} (ho' : o' = ![(rs r).val, 0, 0]) {hi' : ∀ a, o' a + S1x32x512.size a ≤ S8x32x512.size a}
    {s s' : DmaSem sig} (hs : s = fsem 0 r) (hs' : s' = fsem 1 r)
    {hsc : (recvM.slice (Rect.unit (s := S8x32x512) o' S1x32x512.size hi') (fun _ => rfl) : Memref sig (Dev.tc n : Thread nD τ).2.kind .vmem S1x32x512 .bf16).view.ref.isScScratch = false}
    {hsrc : (partM.slice (Rect.unit (s := S8x32x512) o S1x32x512.size hi) (fun _ => rfl)).view.WordExact}
    {hdst : (recvM.slice (Rect.unit (s := S8x32x512) o' S1x32x512.size hi') (fun _ => rfl)).view.WordExact}
    {hsem : DmaTarget.Typed .vmem (.dma s') (.remote (Dev.tc n : Thread nD τ)
      (recvM.slice (Rect.unit (s := S8x32x512) o' S1x32x512.size hi') (fun _ => rfl) : Memref sig .tc .vmem S1x32x512 .bf16) (.dma s) hsc)}
    (O : CellTallies nD τ sig Unit) :
    env m κ c ⊢ iprop(owesAny c (O + fDue c 1 r) -∗ has c partM (peer c r) fullShare (part m c (peer c r)) -∗ scat c r
      -∗ (iprop(cred (tallyAt (fCell c 0 r) () N) ∗ owesAny c O) -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma (partM.slice (Rect.unit (s := S8x32x512) o S1x32x512.size hi) (fun _ => rfl))
            (.remote (Dev.tc n : Thread nD τ) (recvM.slice (Rect.unit (s := S8x32x512) o' S1x32x512.size hi') (fun _ => rfl)) (.dma s) hsc) (.dma s') hsrc hdst hsem) k) Q) := by
  subst hn ho ho' hs hs'
  unfold env scat
  iintro ⟨#HR, #HL, #HO⟩ ⟨%W, Ho⟩ Hs ⟨⟨%Y, Hd⟩, Ht, Ht', #Hr⟩ Hk
  unfold has owns
  icases Hs with ⟨%fs, %hfs, Hs⟩
  icases Hd with ⟨%fd, -, Hd⟩
  iapply (Rounds.wp_send_pointsTo 𝒱₀ ER (Rd m) (c : Thread nD τ) none (c' := (peer c r : Thread nD τ)) (src := slot partM (peer c r)) (dst := slot recvM (rs r))
      (sS := .dma (fsem 0 r)) (sem := .dma (fsem 1 r)) (q := fullShare) (fs := fs) (κ₁ := κ (fCell c 0 r)) (κ₂ := κ (fCell (peer c r) 1 r))
      (r₁ := 0) (r₂ := 0) (d₁ := 0) (d₂ := 0) (fd := fd)
      (by rw [duties_fam]; exact Finset.mem_singleton_self _) (by rw [duties_fam]; exact Finset.mem_singleton_self _)
      () () N rfl (amount_fam m c 0 r 0) (amount_fam m (peer c r) 1 r 0) O rfl (W := W)
      (by
        rw [payload_fam]
        refine (owns_intro (c : Thread nD τ) (slot partM (peer c r)) fullShare fs).trans ?_
        show _ ⊢ hasAny c partM (peer c r)
        iintro H; iexists _; iexact H)
      (by
        rw [payload_fam]
        refine (owns_intro (peer c r : Thread nD τ) (slot recvM (rs r)) fullShare _).trans ?_
        show _ ⊢ has (peer c r) recvM (rs r) fullShare (got m (peer c r) r)
        rw [View.read_write_univ, hfs, got, peer_rev])) $$ [Hs Hd Ho Ht Ht']
  · isplitr; · iapply (records_fam m κ c 0 r); iexact HR
    isplitr; · iapply (records_fam m κ (peer c r) 1 r); iexact HR
    isplitl [Hs]; · iexact Hs
    isplitl [Hd]; · iexact Hd
    isplitl [Ho]; · iexact Ho
    isplitl [Ht]; · iexact Ht
    isplitr; · iapply (openedAll_at c 0 r); iexact HO
    isplitl [Ht']; · iexact Ht'
    iexact Hr
  iintro ⟨Hc, Ho⟩
  iapply Hk
  isplitl [Hc]; · iexact Hc
  iexists W; iexact Ho

/-- The copy of the reduced block to peer `r`'s gather slot `c`, out of one share of the block. -/
theorem step_gather (κ : GSem nD τ sig → ℕ) (r : Fin 7) {n : Dev nD} (hn : n = peer c r)
    {o : Fin 3 → ℕ} (ho : o = ![c.val, 0, 0]) {hi : ∀ a, o a + S1x32x512.size a ≤ S8x32x512.size a}
    {s s' : DmaSem sig} (hs : s = fsem 2 r) (hs' : s' = fsem 3 r)
    {hsc : (gathM.slice (Rect.unit (s := S8x32x512) o S1x32x512.size hi) (fun _ => rfl) : Memref sig (Dev.tc n : Thread nD τ).2.kind .vmem S1x32x512 .bf16).view.ref.isScScratch = false}
    {hsrc : (gathM.slice (Rect.unit (s := S8x32x512) o S1x32x512.size hi) (fun _ => rfl)).view.WordExact}
    {hdst : (gathM.slice (Rect.unit (s := S8x32x512) o S1x32x512.size hi) (fun _ => rfl)).view.WordExact}
    {hsem : DmaTarget.Typed .vmem (.dma s') (.remote (Dev.tc n : Thread nD τ)
      (gathM.slice (Rect.unit (s := S8x32x512) o S1x32x512.size hi) (fun _ => rfl) : Memref sig .tc .vmem S1x32x512 .bf16) (.dma s) hsc)}
    (O : CellTallies nD τ sig Unit) :
    env m κ c ⊢ iprop(owesAny c (O + fDue c 3 r) -∗ has c gathM c (shareTok fullShare 7 r) (red m c) -∗ gat c r
      -∗ (iprop(cred (tallyAt (fCell c 2 r) () N) ∗ owesAny c O) -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma (gathM.slice (Rect.unit (s := S8x32x512) o S1x32x512.size hi) (fun _ => rfl))
            (.remote (Dev.tc n : Thread nD τ) (gathM.slice (Rect.unit (s := S8x32x512) o S1x32x512.size hi) (fun _ => rfl)) (.dma s) hsc) (.dma s') hsrc hdst hsem) k) Q) := by
  subst hn ho hs hs'
  unfold env gat
  iintro ⟨#HR, #HL, #HO⟩ ⟨%W, Ho⟩ Hs ⟨⟨%Y, Hd⟩, Ht, Ht', #Hr⟩ Hk
  unfold has owns
  icases Hs with ⟨%fs, %hfs, Hs⟩
  icases Hd with ⟨%fd, -, Hd⟩
  iapply (Rounds.wp_send_pointsTo 𝒱₀ ER (Rd m) (c : Thread nD τ) none (c' := (peer c r : Thread nD τ)) (src := slot gathM c) (dst := slot gathM c)
      (sS := .dma (fsem 2 r)) (sem := .dma (fsem 3 r)) (q := shareTok fullShare 7 r) (fs := fs) (κ₁ := κ (fCell c 2 r)) (κ₂ := κ (fCell (peer c r) 3 r))
      (r₁ := 0) (r₂ := 0) (d₁ := 0) (d₂ := 0) (fd := fd)
      (by rw [duties_fam]; exact Finset.mem_singleton_self _) (by rw [duties_fam]; exact Finset.mem_singleton_self _)
      () () N rfl (amount_fam m c 2 r 0) (amount_fam m (peer c r) 3 r 0) O rfl (W := W)
      (by
        rw [payload_fam]
        refine (owns_intro (c : Thread nD τ) (slot gathM c) (shareTok fullShare 7 r) fs).trans ?_
        show _ ⊢ has c gathM c (shareTok fullShare 7 r) (red m c)
        rw [hfs])
      (by
        rw [payload_fam]
        refine (owns_intro (peer c r : Thread nD τ) (slot gathM c) fullShare _).trans ?_
        show _ ⊢ has (peer c r) gathM (peer (peer c r) (rev r)) fullShare (red m (peer (peer c r) (rev r)))
        rw [View.read_write_univ, hfs, peer_rev])) $$ [Hs Hd Ho Ht Ht']
  · isplitr; · iapply (records_fam m κ c 2 r); iexact HR
    isplitr; · iapply (records_fam m κ (peer c r) 3 r); iexact HR
    isplitl [Hs]; · iexact Hs
    isplitl [Hd]; · iexact Hd
    isplitl [Ho]; · iexact Ho
    isplitl [Ht]; · iexact Ht
    isplitr; · iapply (openedAll_at c 2 r); iexact HO
    isplitl [Ht']; · iexact Ht'
    iexact Hr
  iintro ⟨Hc, Ho⟩
  iapply Hk
  isplitl [Hc]; · iexact Hc
  iexists W; iexact Ho

end Steps

end Cert.KernelIdeal.Run

end
-- ==== Proof.Parts1.lean ====
/- The kernel's first seven parts on a device: the signals, the eight heads' attention output written block by block, the
   barrier wait, and the first partial product. -/
module

public import proofs.«01_k».proof.Proof.Steps
public import Idealize.ShloMosaic.Lib.Pipeline.Value

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Idealize.ShloMosaic.ValueIdx (ix2 ix3)
open Idealize.ShloMosaic.Transfers (shareTok shareDrop)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

omit [FloatOps F] in
theorem tile_inb (b : Fin 2) (h : Fin 4) : ∀ a, (![128 * b.val, 64 * h.val] : Fin 2 → Nat) a + S128x64.size a ≤ S256x256.size a := by
  revert b h; decide
/-- The block of batch `b`, head `h` in the attention output. -/
abbrev tileR (b : Fin 2) (h : Fin 4) : Rect S256x256 := Rect.unit (s := S256x256) ![128 * b.val, 64 * h.val] S128x64.size (tile_inb b h)
/-- Device `c` holds that block at contents `X`. -/
abbrev hasTile (c : Dev nD) (b : Fin 2) (h : Fin 4) (X : Vec F S128x64 .f32) : sProp 𝕄 :=
  owns (c : Thread nD τ) (ctxM.slice (tileR b h) (fun _ => rfl)) fullShare X
abbrev anyTile (c : Dev nD) (b : Fin 2) (h : Fin 4) : sProp 𝕄 := iprop(∃ X, hasTile c b h X)

/-! ## Values -/

section Values
variable (x : Vec F S256x512 .bf16) (wq : Vec F S512x256 .bf16) (k v : Vec F S2x4x128x64 .bf16)

theorem pay_tile00 : k0_pay3 (k0_pay2 x wq (blk k 0 0) (blk v 0 0)) = tile x wq k v 0 0 :=
  shapeCast_self (tile x wq k v 0 0) shapeCasts_S128x64_S128x64

theorem pay_tile01 : k0_pay4 (k0_pay1 x wq) (blk k 0 1) (blk v 0 1) = tile x wq k v 0 1 :=
  shapeCast_self (tile x wq k v 0 1) shapeCasts_S128x64_S128x64

theorem pay_tile02 : k0_pay7 (k0_pay5 (k0_pay1 x wq) (blk k 0 2)) (k0_pay6 (k0_pay1 x wq) (blk k 0 2)) (blk v 0 2) = tile x wq k v 0 2 :=
  shapeCast_self (tile x wq k v 0 2) shapeCasts_S128x64_S128x64

theorem pay_tile03 : k0_pay8 (k0_pay1 x wq) (blk k 0 3) (blk v 0 3) = tile x wq k v 0 3 :=
  shapeCast_self (tile x wq k v 0 3) shapeCasts_S128x64_S128x64

theorem pay_tile10 : k0_pay10 (k0_pay9 (k0_pay1 x wq)) (blk k 1 0) (blk v 1 0) = tile x wq k v 1 0 :=
  shapeCast_self (tile x wq k v 1 0) shapeCasts_S128x64_S128x64

theorem pay_tile11 : k0_pay12 (k0_pay11 (k0_pay1 x wq) (blk k 1 1) (blk v 1 1)) = tile x wq k v 1 1 :=
  shapeCast_self (tile x wq k v 1 1) shapeCasts_S128x64_S128x64

theorem pay_tile12 : k0_pay13 (k0_pay1 x wq) (blk k 1 2) (blk v 1 2) = tile x wq k v 1 2 :=
  shapeCast_self (tile x wq k v 1 2) shapeCasts_S128x64_S128x64

theorem pay_tile13 : k0_pay16 (k0_pay14 (k0_pay1 x wq) (blk k 1 3)) (k0_pay15 (k0_pay1 x wq) (blk k 1 3)) (blk v 1 3) = tile x wq k v 1 3 :=
  shapeCast_self (tile x wq k v 1 3) shapeCasts_S128x64_S128x64

end Values

section Parts

variable {α : Type} (κ : GSem nD τ sig → ℕ) (c : Dev nD)
variable (arg0 : Memref sig .tc .vmem S256x512 .bf16) (harg0 : arg0.IsWhole) (arg1 : Memref sig .tc .vmem S512x256 .bf16) (harg1 : arg1.IsWhole)
variable (arg2 : Memref sig .tc .vmem S2x4x128x64 .bf16) (harg2 : arg2.IsWhole) (arg3 : Memref sig .tc .vmem S2x4x128x64 .bf16) (harg3 : arg3.IsWhole)
variable (arg4 : Memref sig .tc .vmem S256x512 .bf16) (harg4 : arg4.IsWhole) (arg5 : Memref sig .tc .vmem S8x32x512 .f32) (harg5 : arg5.IsWhole)
variable (h6 : ctxM.IsWhole) (h7 : partM.IsWhole) (h8 : recvM.IsWhole) (h9 : gathM.IsWhole)

/-- A load of a head's block whose value is not used. -/
theorem tile_see (b : Fin 2) (h : Fin 4) {o : Fin 2 → ℕ} (ho : o = ![128 * b.val, 64 * h.val]) {hi : ∀ a, o a + S128x64.size a ≤ S256x256.size a}
    {hl : ctxM.view.LoadsAt (Rect.unit (s := S256x256) o S128x64.size hi).toLoadRect} {p : Prog (TpuEff nD τ sig (Elt F) Λ₀ .tc) α} {Q : α → sProp 𝕄} :
    anyTile c b h ⊢ iprop((anyTile c b h -∗ wp frame (wpE (defs₀ (F := F)) 𝒱₀ (c : Thread nD τ) none) Set.univ p Q)
      -∗ wp frame (wpE (defs₀ (F := F)) 𝒱₀ (c : Thread nD τ) none) Set.univ (.op (.load ctxM (Rect.unit (s := S256x256) o S128x64.size hi).toLoadRect hl) (fun _ => p)) Q) :=
  step_see c ctxM ho (tile_inb b h)
/-- A store over a head's block. -/
theorem tile_put (b : Fin 2) (h : Fin 4) {o : Fin 2 → ℕ} (ho : o = ![128 * b.val, 64 * h.val]) {hi : ∀ a, o a + S128x64.size a ≤ S256x256.size a}
    {w X : Vec F S128x64 .f32} (hw : w = X) {hx : (ctxM.access (Rect.unit (s := S256x256) o S128x64.size hi)).Stores Finset.univ} {hm}
    {k : PUnit → Prog (TpuEff nD τ sig (Elt F) Λ₀ .tc) α} {Q : α → sProp 𝕄} :
    anyTile c b h ⊢ iprop((hasTile c b h X -∗ wp frame (wpE (defs₀ (F := F)) 𝒱₀ (c : Thread nD τ) none) Set.univ (k ⟨⟩) Q)
      -∗ wp frame (wpE (defs₀ (F := F)) 𝒱₀ (c : Thread nD τ) none) Set.univ (.op (.store ctxM (Rect.unit (s := S256x256) o S128x64.size hi) w Finset.univ hx hm) k) Q) :=
  step_put c ctxM ho (tile_inb b h) X (heq_of_eq hw)
theorem dev_peer {n d : ℕ} (c : Dev nD) (r : Fin 7) (hd : d = r.val + 1) (h : n = (c.val + d) % 8) (hn : n < nD) : (⟨n, hn⟩ : Dev nD) = peer c r := by
  subst hd h; rfl

theorem part1_wp (O : CellTallies nD τ sig Unit) {Q : _ → sProp 𝕄} :
    env m κ c ⊢ iprop(owesAny c (O + bDue c 4 + bDue c 3 + bDue c 2 + bDue c 1 + bDue c 0)
      -∗ sigR c 0 -∗ sigR c 1 -∗ sigR c 2 -∗ sigR c 3 -∗ sigR c 4
      -∗ (∀ v2 v24, owesAny c O -∗ Q ⟨c, v2, SemArray.scalar (sig.barrier 0 rfl), v24, 8#32⟩)
      -∗ wp frame (wpE (defs₀ (F := F)) 𝒱₀ (c : Thread nD τ) none) Set.univ (k0_part1 (F := F) arg0 harg0 arg1 harg1 arg2 harg2 arg3 harg3 arg4 harg4 arg5 harg5 ctxM h6 partM h7 recvM h8 gathM h9 cc0_scratch4 cc0_scratch5 cc0_scratch6 cc0_scratch7) Q) := by
  rw [k0_part1_eq_skeleton]; unfold k0_part1_skel
  simp only [semSignalWord, semWaitWord, Prog.lift, Prog.bind_op, Prog.bind_ret, Prog.pure_eq_ret, wp_deviceId]
  iintro #HE Ho H0 H1 H2 H3 H4 Hk
  iapply (step_signal m c κ 0 (dev_peer c 0 rfl (k0_dev1_eq c) (k0_dev1_lt c)) rfl rfl _) $$ HE Ho H0
  iintro Ho
  iapply (step_signal m c κ 1 (dev_peer c 1 rfl (k0_dev2_eq c) (k0_dev2_lt c)) rfl rfl _) $$ HE Ho H1
  iintro Ho
  iapply (step_signal m c κ 2 (dev_peer c 2 rfl (k0_dev3_eq c) (k0_dev3_lt c)) rfl rfl _) $$ HE Ho H2
  iintro Ho
  iapply (step_signal m c κ 3 (dev_peer c 3 rfl (k0_dev4_eq c) (k0_dev4_lt c)) rfl rfl _) $$ HE Ho H3
  iintro Ho
  iapply (step_signal m c κ 4 (dev_peer c 4 rfl (k0_dev5_eq c) (k0_dev5_lt c)) rfl rfl _) $$ HE Ho H4
  iintro Ho
  rw [wp_ret]
  imodintro
  iapply Hk; iexact Ho

theorem part2_wp (O : CellTallies nD τ sig Unit) (v2 v24 w8 : BitVec 32) {Q : _ → sProp 𝕄} :
    env m κ c ⊢ iprop(owesAny c (O + bDue c 6 + bDue c 5)
      -∗ sigR c 5 -∗ sigR c 6 -∗ owns (c : Thread nD τ) arg0 fullShare (xIn m c) -∗ owns (c : Thread nD τ) arg1 fullShare (wqIn m c) -∗ owns (c : Thread nD τ) arg2 fullShare (kIn m c) -∗ owns (c : Thread nD τ) arg3 fullShare (vIn m c)
      -∗ (owesAny c O -∗ owns (c : Thread nD τ) arg0 fullShare (xIn m c) -∗ owns (c : Thread nD τ) arg1 fullShare (wqIn m c) -∗ owns (c : Thread nD τ) arg2 fullShare (kIn m c) -∗ owns (c : Thread nD τ) arg3 fullShare (vIn m c)
        -∗ Q ⟨k0_pay1 (xIn m c) (wqIn m c), k0_pay2 (xIn m c) (wqIn m c) (blk (kIn m c) 0 0) (blk (vIn m c) 0 0)⟩)
      -∗ wp frame (wpE (defs₀ (F := F)) 𝒱₀ (c : Thread nD τ) none) Set.univ (k0_part2 (F := F) arg0 harg0 arg1 harg1 arg2 harg2 arg3 harg3 arg4 harg4 arg5 harg5 ctxM h6 partM h7 recvM h8 gathM h9 cc0_scratch4 cc0_scratch5 cc0_scratch6 cc0_scratch7 c v2 (SemArray.scalar (sig.barrier 0 rfl)) v24 w8) Q) := by
  rw [k0_part2_eq_skeleton]; unfold k0_part2_skel
  simp only [semSignalWord, semWaitWord, Prog.lift, Prog.bind_op, Prog.bind_ret, Prog.pure_eq_ret, wp_deviceId]
  iintro #HE Ho H5 H6 Hx Hw H2 H3 Hk
  iapply (step_signal m c κ 5 (dev_peer c 5 rfl (k0_dev6_eq c) (k0_dev6_lt c)) rfl rfl _) $$ HE Ho H5
  iintro Ho
  iapply (step_signal m c κ 6 (dev_peer c 6 rfl (k0_dev7_eq c) (k0_dev7_lt c)) rfl rfl _) $$ HE Ho H6
  iintro Ho
  iapply (step_getAll c arg0 fullShare (xIn m c) (by funext a; fin_cases a <;> rfl)) $$ Hx; iintro Hx
  iapply (step_getAll c arg1 fullShare (wqIn m c) (by funext a; fin_cases a <;> rfl)) $$ Hw; iintro Hw
  iapply (step_get c arg2 fullShare (kIn m c) rfl (blk_inb 0 0) (blk (kIn m c) 0 0) rfl) $$ H2; iintro H2
  iapply (step_get c arg3 fullShare (vIn m c) rfl (blk_inb 0 0) (blk (vIn m c) 0 0) rfl) $$ H3; iintro H3
  rw [wp_ret]
  imodintro
  iapply Hk $$ Ho Hx Hw H2 H3

theorem part3_wp {Q : _ → sProp 𝕄} :
    owns (c : Thread nD τ) arg2 fullShare (kIn m c) ⊢ iprop(owns (c : Thread nD τ) arg3 fullShare (vIn m c) -∗ anyTile c 0 0 -∗ anyTile c 0 1 -∗ (owns (c : Thread nD τ) arg2 fullShare (kIn m c) -∗ owns (c : Thread nD τ) arg3 fullShare (vIn m c) -∗ hasTile c 0 0 (tile (xIn m c) (wqIn m c) (kIn m c) (vIn m c) 0 0) -∗ hasTile c 0 1 (tile (xIn m c) (wqIn m c) (kIn m c) (vIn m c) 0 1) -∗ Q ⟨k0_pay5 (k0_pay1 (xIn m c) (wqIn m c)) (blk (kIn m c) 0 2), k0_pay6 (k0_pay1 (xIn m c) (wqIn m c)) (blk (kIn m c) 0 2)⟩)
      -∗ wp frame (wpE (defs₀ (F := F)) 𝒱₀ (c : Thread nD τ) none) Set.univ (k0_part3 (F := F) arg0 harg0 arg1 harg1 arg2 harg2 arg3 harg3 arg4 harg4 arg5 harg5 ctxM h6 partM h7 recvM h8 gathM h9 cc0_scratch4 cc0_scratch5 cc0_scratch6 cc0_scratch7 (k0_pay1 (xIn m c) (wqIn m c)) (k0_pay2 (xIn m c) (wqIn m c) (blk (kIn m c) 0 0) (blk (vIn m c) 0 0))) Q) := by
  rw [k0_part3_eq_skeleton]; unfold k0_part3_skel
  simp only [semSignalWord, semWaitWord, Prog.lift, Prog.bind_op, Prog.bind_ret, Prog.pure_eq_ret, wp_deviceId]
  iintro H2 H3 T00 T01 Hk
  iapply (tile_see c 0 0 rfl) $$ T00; iintro T00
  iapply (tile_put c 0 0 rfl (pay_tile00 _ _ _ _)) $$ T00; iintro T00
  iapply (step_get c arg2 fullShare (kIn m c) rfl (blk_inb 0 1) (blk (kIn m c) 0 1) rfl) $$ H2; iintro H2
  iapply (step_get c arg3 fullShare (vIn m c) rfl (blk_inb 0 1) (blk (vIn m c) 0 1) rfl) $$ H3; iintro H3
  iapply (tile_see c 0 1 rfl) $$ T01; iintro T01
  iapply (tile_put c 0 1 rfl (pay_tile01 _ _ _ _)) $$ T01; iintro T01
  iapply (step_get c arg2 fullShare (kIn m c) rfl (blk_inb 0 2) (blk (kIn m c) 0 2) rfl) $$ H2; iintro H2
  rw [wp_ret]
  imodintro
  iapply Hk $$ H2 H3 T00 T01

theorem part4_wp {Q : _ → sProp 𝕄} :
    owns (c : Thread nD τ) arg2 fullShare (kIn m c) ⊢ iprop(owns (c : Thread nD τ) arg3 fullShare (vIn m c) -∗ anyTile c 0 2 -∗ anyTile c 0 3 -∗ (owns (c : Thread nD τ) arg2 fullShare (kIn m c) -∗ owns (c : Thread nD τ) arg3 fullShare (vIn m c) -∗ hasTile c 0 2 (tile (xIn m c) (wqIn m c) (kIn m c) (vIn m c) 0 2) -∗ hasTile c 0 3 (tile (xIn m c) (wqIn m c) (kIn m c) (vIn m c) 0 3) -∗ Q (k0_pay9 (k0_pay1 (xIn m c) (wqIn m c))))
      -∗ wp frame (wpE (defs₀ (F := F)) 𝒱₀ (c : Thread nD τ) none) Set.univ (k0_part4 (F := F) arg0 harg0 arg1 harg1 arg2 harg2 arg3 harg3 arg4 harg4 arg5 harg5 ctxM h6 partM h7 recvM h8 gathM h9 cc0_scratch4 cc0_scratch5 cc0_scratch6 cc0_scratch7 (k0_pay1 (xIn m c) (wqIn m c)) (k0_pay5 (k0_pay1 (xIn m c) (wqIn m c)) (blk (kIn m c) 0 2)) (k0_pay6 (k0_pay1 (xIn m c) (wqIn m c)) (blk (kIn m c) 0 2))) Q) := by
  rw [k0_part4_eq_skeleton]; unfold k0_part4_skel
  simp only [semSignalWord, semWaitWord, Prog.lift, Prog.bind_op, Prog.bind_ret, Prog.pure_eq_ret, wp_deviceId]
  iintro H2 H3 T02 T03 Hk
  iapply (step_get c arg3 fullShare (vIn m c) rfl (blk_inb 0 2) (blk (vIn m c) 0 2) rfl) $$ H3; iintro H3
  iapply (tile_see c 0 2 rfl) $$ T02; iintro T02
  iapply (tile_put c 0 2 rfl (pay_tile02 _ _ _ _)) $$ T02; iintro T02
  iapply (step_get c arg2 fullShare (kIn m c) rfl (blk_inb 0 3) (blk (kIn m c) 0 3) rfl) $$ H2; iintro H2
  iapply (step_get c arg3 fullShare (vIn m c) rfl (blk_inb 0 3) (blk (vIn m c) 0 3) rfl) $$ H3; iintro H3
  iapply (tile_see c 0 3 rfl) $$ T03; iintro T03
  iapply (tile_put c 0 3 rfl (pay_tile03 _ _ _ _)) $$ T03; iintro T03
  rw [wp_ret]
  imodintro
  iapply Hk $$ H2 H3 T02 T03

theorem part5_wp {Q : _ → sProp 𝕄} :
    owns (c : Thread nD τ) arg2 fullShare (kIn m c) ⊢ iprop(owns (c : Thread nD τ) arg3 fullShare (vIn m c) -∗ anyTile c 1 0 -∗ (owns (c : Thread nD τ) arg2 fullShare (kIn m c) -∗ owns (c : Thread nD τ) arg3 fullShare (vIn m c) -∗ hasTile c 1 0 (tile (xIn m c) (wqIn m c) (kIn m c) (vIn m c) 1 0) -∗ Q (k0_pay11 (k0_pay1 (xIn m c) (wqIn m c)) (blk (kIn m c) 1 1) (blk (vIn m c) 1 1)))
      -∗ wp frame (wpE (defs₀ (F := F)) 𝒱₀ (c : Thread nD τ) none) Set.univ (k0_part5 (F := F) arg0 harg0 arg1 harg1 arg2 harg2 arg3 harg3 arg4 harg4 arg5 harg5 ctxM h6 partM h7 recvM h8 gathM h9 cc0_scratch4 cc0_scratch5 cc0_scratch6 cc0_scratch7 (k0_pay1 (xIn m c) (wqIn m c)) (k0_pay9 (k0_pay1 (xIn m c) (wqIn m c)))) Q) := by
  rw [k0_part5_eq_skeleton]; unfold k0_part5_skel
  simp only [semSignalWord, semWaitWord, Prog.lift, Prog.bind_op, Prog.bind_ret, Prog.pure_eq_ret, wp_deviceId]
  iintro H2 H3 T10 Hk
  iapply (step_get c arg2 fullShare (kIn m c) rfl (blk_inb 1 0) (blk (kIn m c) 1 0) rfl) $$ H2; iintro H2
  iapply (step_get c arg3 fullShare (vIn m c) rfl (blk_inb 1 0) (blk (vIn m c) 1 0) rfl) $$ H3; iintro H3
  iapply (tile_see c 1 0 rfl) $$ T10; iintro T10
  iapply (tile_put c 1 0 rfl (pay_tile10 _ _ _ _)) $$ T10; iintro T10
  iapply (step_get c arg2 fullShare (kIn m c) rfl (blk_inb 1 1) (blk (kIn m c) 1 1) rfl) $$ H2; iintro H2
  iapply (step_get c arg3 fullShare (vIn m c) rfl (blk_inb 1 1) (blk (vIn m c) 1 1) rfl) $$ H3; iintro H3
  rw [wp_ret]
  imodintro
  iapply Hk $$ H2 H3 T10

theorem part6_wp {Q : _ → sProp 𝕄} :
    owns (c : Thread nD τ) arg2 fullShare (kIn m c) ⊢ iprop(owns (c : Thread nD τ) arg3 fullShare (vIn m c) -∗ anyTile c 1 1 -∗ anyTile c 1 2 -∗ (owns (c : Thread nD τ) arg2 fullShare (kIn m c) -∗ owns (c : Thread nD τ) arg3 fullShare (vIn m c) -∗ hasTile c 1 1 (tile (xIn m c) (wqIn m c) (kIn m c) (vIn m c) 1 1) -∗ hasTile c 1 2 (tile (xIn m c) (wqIn m c) (kIn m c) (vIn m c) 1 2) -∗ Q ⟨k0_pay14 (k0_pay1 (xIn m c) (wqIn m c)) (blk (kIn m c) 1 3), k0_pay15 (k0_pay1 (xIn m c) (wqIn m c)) (blk (kIn m c) 1 3)⟩)
      -∗ wp frame (wpE (defs₀ (F := F)) 𝒱₀ (c : Thread nD τ) none) Set.univ (k0_part6 (F := F) arg0 harg0 arg1 harg1 arg2 harg2 arg3 harg3 arg4 harg4 arg5 harg5 ctxM h6 partM h7 recvM h8 gathM h9 cc0_scratch4 cc0_scratch5 cc0_scratch6 cc0_scratch7 (k0_pay1 (xIn m c) (wqIn m c)) (k0_pay11 (k0_pay1 (xIn m c) (wqIn m c)) (blk (kIn m c) 1 1) (blk (vIn m c) 1 1))) Q) := by
  rw [k0_part6_eq_skeleton]; unfold k0_part6_skel
  simp only [semSignalWord, semWaitWord, Prog.lift, Prog.bind_op, Prog.bind_ret, Prog.pure_eq_ret, wp_deviceId]
  iintro H2 H3 T11 T12 Hk
  iapply (tile_see c 1 1 rfl) $$ T11; iintro T11
  iapply (tile_put c 1 1 rfl (pay_tile11 _ _ _ _)) $$ T11; iintro T11
  iapply (step_get c arg2 fullShare (kIn m c) rfl (blk_inb 1 2) (blk (kIn m c) 1 2) rfl) $$ H2; iintro H2
  iapply (step_get c arg3 fullShare (vIn m c) rfl (blk_inb 1 2) (blk (vIn m c) 1 2) rfl) $$ H3; iintro H3
  iapply (tile_see c 1 2 rfl) $$ T12; iintro T12
  iapply (tile_put c 1 2 rfl (pay_tile12 _ _ _ _)) $$ T12; iintro T12
  iapply (step_get c arg2 fullShare (kIn m c) rfl (blk_inb 1 3) (blk (kIn m c) 1 3) rfl) $$ H2; iintro H2
  rw [wp_ret]
  imodintro
  iapply Hk $$ H2 H3 T11 T12

end Parts

end Cert.KernelIdeal.Run

end
-- ==== Proof.Blocks.lean ====
/- How the kernel's scratch buffers divide: an 8 × 32 × 512 buffer into its eight blocks, the attention output into its eight
   heads' blocks, and a block's ownership into a kept share and seven lent ones. -/
module

public import proofs.«01_k».proof.Proof.Parts1

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Idealize.ShloMosaic.ValueIdx (ix2 ix3)
open Idealize.ShloMosaic.Transfers (shareTok shareDrop)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

section Chains
variable {M : Type} [URA M]
theorem chain7 (Φ : Fin 7 → sProp M) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem chain8 (Φ : Fin 8 → sProp M) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
/-- Over the devices: `c` first, then its peers. -/
theorem chainPeers (c : Dev nD) (Φ : Dev nD → sProp M) : bigSep Finset.univ Φ = iprop(Φ c ∗ bigSep Finset.univ fun r => Φ (peer c r)) := by
  rw [chain7]
  exact bigSep_univ_eq_bigSepL [c, peer c 0, peer c 1, peer c 2, peer c 3, peer c 4, peer c 5, peer c 6] (by revert c; decide) (by revert c; decide) Φ
/-- Over the devices: `c` first, then those it is a peer of. -/
theorem chainPeersRev (c : Dev nD) (Φ : Dev nD → sProp M) : bigSep Finset.univ Φ = iprop(Φ c ∗ bigSep Finset.univ fun r => Φ (peer c (rev r))) := by
  rw [chain7]
  exact bigSep_univ_eq_bigSepL [c, peer c (rev 0), peer c (rev 1), peer c (rev 2), peer c (rev 3), peer c (rev 4), peer c (rev 5), peer c (rev 6)]
    (by revert c; decide) (by revert c; decide) Φ
/-- Over the blocks of a receive buffer: the unused one first. -/
theorem chainSlots (Φ : Fin 8 → sProp M) : bigSep Finset.univ Φ = iprop(Φ 0 ∗ bigSep Finset.univ fun r => Φ (rs r)) := by
  rw [chain7]
  exact bigSep_univ_eq_bigSepL [0, rs 0, rs 1, rs 2, rs 3, rs 4, rs 5, rs 6] (by decide) (by decide) Φ
theorem chainTiles (Φ : Fin 2 × Fin 4 → sProp M) : bigSep Finset.univ Φ
    = iprop(Φ (0, 0) ∗ Φ (0, 1) ∗ Φ (0, 2) ∗ Φ (0, 3) ∗ Φ (1, 0) ∗ Φ (1, 1) ∗ Φ (1, 2) ∗ Φ (1, 3)) :=
  bigSep_univ_eq_bigSepL [(0, 0), (0, 1), (0, 2), (0, 3), (1, 0), (1, 1), (1, 2), (1, 3)] (by decide) (by decide) Φ
end Chains

/-! ## Blocks -/

theorem slotR_disjoint (j j' : Fin 8) (h : j ≠ j') : Disjoint (slotR j).set (slotR j').set := by
  refine Rect.unit_disjoint (0 : Fin 3) ?_
  have : j.val ≠ j'.val := fun e => h (Fin.ext e)
  show j.val + 1 ≤ j'.val ∨ j'.val + 1 ≤ j.val
  omega
theorem slotR_cover : (Finset.univ : Finset (Fin 8)).biUnion (fun j => (slotR j).set) = Finset.univ := by
  refine Finset.eq_univ_iff_forall.mpr fun y => Finset.mem_biUnion.mpr ⟨y (0 : Fin 3), Finset.mem_univ _, Rect.mem_set_unit.mpr fun a => ?_⟩
  have h1 : (y (1 : Fin 3)).val < 32 := (y (1 : Fin 3)).isLt
  have h2 : (y (2 : Fin 3)).val < 512 := (y (2 : Fin 3)).isLt
  match a with
  | ⟨0, _⟩ => exact ⟨le_refl _, Nat.lt_succ_self _⟩
  | ⟨1, _⟩ => exact ⟨Nat.zero_le _, by show (y (1 : Fin 3)).val < 0 + 32; omega⟩
  | ⟨2, _⟩ => exact ⟨Nat.zero_le _, by show (y (2 : Fin 3)).val < 0 + 512; omega⟩

/-- Block `j` of the contents of a buffer. -/
def blockOf (X : Vec F S8x32x512 .bf16) (j : Fin 8) : Vec F S1x32x512 .bf16 := fun i => X ((slotR j).emb i)
/-- The contents with the given blocks. -/
def ofBlocks (Z : Fin 8 → Vec F S1x32x512 .bf16) : Vec F S8x32x512 .bf16 := fun y => Z (y (0 : Fin 3)) (ix3 (0 : Fin 1) (y (1 : Fin 3)) (y (2 : Fin 3)))

omit [FloatOps F] in
theorem blockOf_ofBlocks (Z : Fin 8 → Vec F S1x32x512 .bf16) (j : Fin 8) : blockOf (ofBlocks Z) j = Z j := by
  funext i
  have h0 : (i (0 : Fin 3)).val = 0 := Nat.lt_one_iff.mp (i (0 : Fin 3)).isLt
  have e0 : (slotR j).emb i (0 : Fin 3) = j := Fin.ext (by rw [Rect.emb_apply]; show j.val + 1 * (i (0 : Fin 3)).val = j.val; omega)
  show Z ((slotR j).emb i (0 : Fin 3)) _ = Z j i
  rw [e0]
  refine congrArg (Z j) (funext fun a => Fin.ext ?_)
  match a with
  | ⟨0, _⟩ => exact h0.symm
  | ⟨1, _⟩ => show 0 + 1 * (i (1 : Fin 3)).val = (i (1 : Fin 3)).val; omega
  | ⟨2, _⟩ => show 0 + 1 * (i (2 : Fin 3)).val = (i (2 : Fin 3)).val; omega

theorem blockOf_gath (j : Fin 8) : blockOf (gath m) j = red m j := blockOf_ofBlocks (fun j => red m j) j

omit [FloatOps F] in
theorem slots_split (c : Dev nD) (M : Memref sig .tc .vmem S8x32x512 .bf16) (q : PosShare TreeShare) (X : Vec F S8x32x512 .bf16) :
    (owns (c : Thread nD τ) M q X : sProp 𝕄) ⊢ bigSep Finset.univ fun j => has c M j q (blockOf X j) :=
  owns_rects (c : Thread nD τ) M q slotR (fun _ _ => rfl) slotR_disjoint slotR_cover X
theorem slots_join (c : Dev nD) (M : Memref sig .tc .vmem S8x32x512 .bf16) (q : PosShare TreeShare) (X : Vec F S8x32x512 .bf16) :
    (bigSep Finset.univ fun j => has c M j q (blockOf X j)) ⊢ (owns (c : Thread nD τ) M q X : sProp 𝕄) :=
  owns_of_rects (c : Thread nD τ) M q slotR (fun _ _ => rfl) slotR_disjoint slotR_cover X

omit [FloatOps F] in
theorem slots_any (c : Dev nD) (M : Memref sig .tc .vmem S8x32x512 .bf16) :
    iprop(∃ X, owns (c : Thread nD τ) M fullShare X) ⊢ (bigSep Finset.univ fun j => hasAny c M j : sProp 𝕄) := by
  iintro ⟨%X, H⟩
  refine BIBase.Entails.trans (slots_split c M fullShare X) (BI.bigSep_mono fun j _ => ?_)
  change has c M j fullShare (blockOf X j) ⊢ hasAny c M j
  iintro H; iexists _; iexact H
theorem slots_whole (c : Dev nD) (M : Memref sig .tc .vmem S8x32x512 .bf16) :
    (bigSep Finset.univ fun j => hasAny c M j : sProp 𝕄) ⊢ iprop(∃ X, owns (c : Thread nD τ) M fullShare X) := by
  rw [chain8]
  iintro ⟨⟨%X0, H0⟩, ⟨%X1, H1⟩, ⟨%X2, H2⟩, ⟨%X3, H3⟩, ⟨%X4, H4⟩, ⟨%X5, H5⟩, ⟨%X6, H6⟩, ⟨%X7, H7⟩⟩
  iexists ofBlocks ![X0, X1, X2, X3, X4, X5, X6, X7]
  iapply (slots_join c M fullShare (ofBlocks ![X0, X1, X2, X3, X4, X5, X6, X7]))
  simp only [blockOf_ofBlocks]
  rw [chain8]
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-! ## Shares of a block -/

theorem lend (c : Dev nD) (M : Memref sig .tc .vmem S8x32x512 .bf16) (j : Fin 8) (X : Vec F S1x32x512 .bf16) :
    (has c M j fullShare X : sProp 𝕄) ⊢ iprop(has c M j (shareDrop fullShare 7) X ∗ bigSep Finset.univ fun r : Fin 7 => has c M j (shareTok fullShare 7 r) X) := by
  unfold has
  simp only [owns_eq_rep]
  exact Transfers.pointsTo_toks_split fullShare 7
theorem regain (c : Dev nD) (M : Memref sig .tc .vmem S8x32x512 .bf16) (j : Fin 8) (X : Vec F S1x32x512 .bf16) :
    iprop(has c M j (shareDrop fullShare 7) X ∗ bigSep Finset.univ fun r : Fin 7 => has c M j (shareTok fullShare 7 r) X) ⊢ (has c M j fullShare X : sProp 𝕄) := by
  unfold has
  simp only [owns_eq_rep]
  exact Transfers.pointsTo_toks_join fullShare 7

/-! ## The heads' blocks -/

theorem tileR_disjoint (p p' : Fin 2 × Fin 4) (h : p ≠ p') : Disjoint (tileR p.1 p.2).set (tileR p'.1 p'.2).set := by
  obtain ⟨b, h1⟩ := p
  obtain ⟨b', h1'⟩ := p'
  by_cases e : b = b'
  · subst e
    refine Rect.unit_disjoint (1 : Fin 2) ?_
    have : h1.val ≠ h1'.val := fun e => h (by rw [Fin.ext e])
    show 64 * h1.val + 64 ≤ 64 * h1'.val ∨ 64 * h1'.val + 64 ≤ 64 * h1.val
    omega
  · refine Rect.unit_disjoint (0 : Fin 2) ?_
    have : b.val ≠ b'.val := fun h => e (Fin.ext h)
    show 128 * b.val + 128 ≤ 128 * b'.val ∨ 128 * b'.val + 128 ≤ 128 * b.val
    omega
theorem tileR_cover : (Finset.univ : Finset (Fin 2 × Fin 4)).biUnion (fun p => (tileR p.1 p.2).set) = Finset.univ := by
  refine Finset.eq_univ_iff_forall.mpr fun y => Finset.mem_biUnion.mpr
    ⟨(⟨(y (0 : Fin 2)).val / 128, Nat.div_lt_of_lt_mul (y (0 : Fin 2)).isLt⟩, ⟨(y (1 : Fin 2)).val / 64, Nat.div_lt_of_lt_mul (y (1 : Fin 2)).isLt⟩),
      Finset.mem_univ _, Rect.mem_set_unit.mpr fun a => ?_⟩
  match a with
  | ⟨0, _⟩ =>
    show 128 * ((y (0 : Fin 2)).val / 128) ≤ (y (0 : Fin 2)).val ∧ (y (0 : Fin 2)).val < 128 * ((y (0 : Fin 2)).val / 128) + 128
    omega
  | ⟨1, _⟩ =>
    show 64 * ((y (1 : Fin 2)).val / 64) ≤ (y (1 : Fin 2)).val ∧ (y (1 : Fin 2)).val < 64 * ((y (1 : Fin 2)).val / 64) + 64
    omega

/-- A head's block of the attention output is that head's output. -/
theorem ctxOf_tile (x : Vec F S256x512 .bf16) (wq : Vec F S512x256 .bf16) (k v : Vec F S2x4x128x64 .bf16) (b : Fin 2) (h : Fin 4) :
    (fun j => ctxOf x wq k v ((tileR b h).emb j)) = tile x wq k v b h := by
  funext j
  have h0 : (j (0 : Fin 2)).val < 128 := (j (0 : Fin 2)).isLt
  have h1 : (j (1 : Fin 2)).val < 64 := (j (1 : Fin 2)).isLt
  have e0 : ((tileR b h).emb j (0 : Fin 2)).val = 128 * b.val + (j (0 : Fin 2)).val := by
    rw [Rect.emb_apply]; show 128 * b.val + 1 * (j (0 : Fin 2)).val = _; omega
  have e1 : ((tileR b h).emb j (1 : Fin 2)).val = 64 * h.val + (j (1 : Fin 2)).val := by
    rw [Rect.emb_apply]; show 64 * h.val + 1 * (j (1 : Fin 2)).val = _; omega
  unfold ctxOf
  have hb : (⟨((tileR b h).emb j (0 : Fin 2)).val / 128, Nat.div_lt_of_lt_mul ((tileR b h).emb j (0 : Fin 2)).isLt⟩ : Fin 2) = b :=
    Fin.ext (by show ((tileR b h).emb j (0 : Fin 2)).val / 128 = _; rw [e0]; omega)
  have hh : (⟨((tileR b h).emb j (1 : Fin 2)).val / 64, Nat.div_lt_of_lt_mul ((tileR b h).emb j (1 : Fin 2)).isLt⟩ : Fin 4) = h :=
    Fin.ext (by show ((tileR b h).emb j (1 : Fin 2)).val / 64 = _; rw [e1]; omega)
  rw [hb, hh]
  refine congrArg _ (funext fun a => Fin.ext ?_)
  match a with
  | ⟨0, _⟩ => show ((tileR b h).emb j (0 : Fin 2)).val % 128 = (j (0 : Fin 2)).val; rw [e0]; omega
  | ⟨1, _⟩ => show ((tileR b h).emb j (1 : Fin 2)).val % 64 = (j (1 : Fin 2)).val; rw [e1]; omega

omit [FloatOps F] in
theorem tiles_any (c : Dev nD) :
    iprop(∃ X, owns (c : Thread nD τ) ctxM fullShare X) ⊢ (bigSep Finset.univ fun p : Fin 2 × Fin 4 => anyTile c p.1 p.2 : sProp 𝕄) := by
  iintro ⟨%X, H⟩
  refine BIBase.Entails.trans (owns_rects (c : Thread nD τ) ctxM fullShare (fun p : Fin 2 × Fin 4 => tileR p.1 p.2) (fun _ _ => rfl) tileR_disjoint tileR_cover X)
    (BI.bigSep_mono fun p _ => ?_)
  change hasTile c p.1 p.2 (fun j => X ((tileR p.1 p.2).emb j)) ⊢ anyTile c p.1 p.2
  iintro H; iexists _; iexact H
theorem tiles_join (c : Dev nD) :
    (bigSep Finset.univ fun p : Fin 2 × Fin 4 => hasTile c p.1 p.2 (tile (xIn m c) (wqIn m c) (kIn m c) (vIn m c) p.1 p.2))
      ⊢ (owns (c : Thread nD τ) ctxM fullShare (ctx m c) : sProp 𝕄) := by
  refine BIBase.Entails.trans (BI.bigSep_mono fun p _ => ?_)
    (owns_of_rects (c : Thread nD τ) ctxM fullShare (fun p : Fin 2 × Fin 4 => tileR p.1 p.2) (fun _ _ => rfl) tileR_disjoint tileR_cover (ctx m c))
  change hasTile c p.1 p.2 (tile (xIn m c) (wqIn m c) (kIn m c) (vIn m c) p.1 p.2) ⊢ hasTile c p.1 p.2 (fun j => ctx m c ((tileR p.1 p.2).emb j))
  exact Entails.of_eq (congrArg (hasTile c p.1 p.2) (ctxOf_tile (xIn m c) (wqIn m c) (kIn m c) (vIn m c) p.1 p.2).symm)

end Cert.KernelIdeal.Run

end
-- ==== Proof.Parts2.lean ====
/- The kernel's parts from the barrier wait on: the partial products and their copies, the sum of the received ones, the copies
   of the reduced block, and the waits. -/
module

public import proofs.«01_k».proof.Proof.Blocks

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Idealize.ShloMosaic.ValueIdx (ix2 ix3)
open Idealize.ShloMosaic.Transfers (shareTok shareDrop)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-- The semaphore's one round is over. -/
abbrev done (c : Dev nD) (a : Fin 4) (r : Fin 7) : sProp 𝕄 := atPos ER (fCell c a r) (0 + 1) ∅ 0
/-- The credits that a copy's completion at its source will bring. -/
abbrev owedBack (c : Dev nD) (a : Fin 4) (r : Fin 7) : sProp 𝕄 := cred (tallyAt (fCell c a r) () N)

/-! ## Offsets -/

theorem rows_at (c : Dev nD) (r : Fin 7) {w : BitVec 32} (hw : w = BitVec.ofNat 32 (1 + r.val)) : k0_off1 c w = ![32 * (peer c r).val, 0] := by
  subst hw; exact k0_off1_eq c r
theorem slot_at (c : Dev nD) (r : Fin 7) {w : BitVec 32} (hw : w = BitVec.ofNat 32 (1 + r.val)) : k0_off2 c w = ![(peer c r).val, 0, 0] := by
  subst hw; exact k0_off2_eq c r
theorem src_at (c : Dev nD) (r : Fin 7) {w : BitVec 32} (hw : w = BitVec.ofNat 32 (1 + r.val)) : k0_off3 c w = ![(peer c r).val, 0, 0] := by
  subst hw; exact k0_off3_eq c r

/-! ## The steps with their values named -/

section Named

variable {α : Type} (κ : GSem nD τ sig → ℕ) (c : Dev nD)

/-- A load of the rows of device `t` of the attention output. -/
theorem rows_get (t : Dev nD) {o : Fin 2 → ℕ} (ho : o = ![32 * t.val, 0]) {hi : ∀ a, o a + S32x256.size a ≤ S256x256.size a}
    {hl : ctxM.view.LoadsAt (Rect.unit (s := S256x256) o S32x256.size hi).toLoadRect} {p : Vec F S32x256 .f32 → Prog (TpuEff nD τ sig (Elt F) Λ₀ .tc) α} {Q : α → sProp 𝕄} :
    owns (c : Thread nD τ) ctxM fullShare (ctx m c) ⊢ iprop((owns (c : Thread nD τ) ctxM fullShare (ctx m c) -∗ wp frame (wpE (defs₀ (F := F)) 𝒱₀ (c : Thread nD τ) none) Set.univ (p (rowsOf (ctx m c) t)) Q)
      -∗ wp frame (wpE (defs₀ (F := F)) 𝒱₀ (c : Thread nD τ) none) Set.univ (.op (.load ctxM (Rect.unit (s := S256x256) o S32x256.size hi).toLoadRect hl) p) Q) :=
  step_get c ctxM fullShare (ctx m c) ho (rows_inb t) (rowsOf (ctx m c) t) rfl
/-- A store of the partial product for peer `r`. -/
theorem part_put (r : Fin 7) {o : Fin 3 → ℕ} (ho : o = ![(peer c r).val, 0, 0]) {hi : ∀ a, o a + S1x32x512.size a ≤ S8x32x512.size a}
    {w : Vec F S1x32x512 .bf16} (hw : w = part m c (peer c r)) {hx : (partM.access (Rect.unit (s := S8x32x512) o S1x32x512.size hi)).Stores Finset.univ} {hm} {p : PUnit → Prog (TpuEff nD τ sig (Elt F) Λ₀ .tc) α} {Q : α → sProp 𝕄} :
    hasAny c partM (peer c r) ⊢ iprop((has c partM (peer c r) fullShare (part m c (peer c r)) -∗ wp frame (wpE (defs₀ (F := F)) 𝒱₀ (c : Thread nD τ) none) Set.univ (p ⟨⟩) Q)
      -∗ wp frame (wpE (defs₀ (F := F)) 𝒱₀ (c : Thread nD τ) none) Set.univ (.op (.store partM (Rect.unit (s := S8x32x512) o S1x32x512.size hi) w Finset.univ hx hm) p) Q) := by
  subst hw; exact step_store c partM (peer c r) ho
/-- A store of the reduced block. -/
theorem red_put {o : Fin 3 → ℕ} (ho : o = ![c.val, 0, 0]) {hi : ∀ a, o a + S1x32x512.size a ≤ S8x32x512.size a}
    {w : Vec F S1x32x512 .bf16} (hw : w = red m c) {hx : (gathM.access (Rect.unit (s := S8x32x512) o S1x32x512.size hi)).Stores Finset.univ} {hm} {p : PUnit → Prog (TpuEff nD τ sig (Elt F) Λ₀ .tc) α} {Q : α → sProp 𝕄} :
    hasAny c gathM c ⊢ iprop((has c gathM c fullShare (red m c) -∗ wp frame (wpE (defs₀ (F := F)) 𝒱₀ (c : Thread nD τ) none) Set.univ (p ⟨⟩) Q)
      -∗ wp frame (wpE (defs₀ (F := F)) 𝒱₀ (c : Thread nD τ) none) Set.univ (.op (.store gathM (Rect.unit (s := S8x32x512) o S1x32x512.size hi) w Finset.univ hx hm) p) Q) := by
  subst hw; exact step_store c gathM c ho

/-- The wait that gives the source of a partial product's copy back. -/
theorem wait_part (r : Fin 7) {s : DmaSem sig} (hs : s = fsem 0 r) {src : Memref sig .tc .vmem S1x32x512 .bf16} {o : Fin 3 → ℕ} {hi : ∀ a, o a + S1x32x512.size a ≤ S8x32x512.size a}
    {h₁ : src.view.WordExact} {h₂ : (partM.slice (Rect.unit (s := S8x32x512) o S1x32x512.size hi) (fun _ => rfl)).view.WordExact} {p : PUnit → Prog (TpuEff nD τ sig (Elt F) Λ₀ .tc) α} {Q : α → sProp 𝕄} :
    env m κ c ⊢ iprop(owesAny c (0) -∗ due c 0 r -∗ (iprop(owesAny c (0) ∗ done c 0 r ∗ hasAny c partM (peer c r)) -∗ wp frame (wpE (defs₀ (F := F)) 𝒱₀ (c : Thread nD τ) none) Set.univ (p ⟨⟩) Q)
      -∗ wp frame (wpE (defs₀ (F := F)) 𝒱₀ (c : Thread nD τ) none) Set.univ (.op (.waitDma2 s src (partM.slice (Rect.unit (s := S8x32x512) o S1x32x512.size hi) (fun _ => rfl)) h₁ h₂) p) Q) :=
  step_wait m c κ 0 r hs (0) (mayWait_none c _) (show (partM.slice (Rect.unit (s := S8x32x512) o S1x32x512.size hi) (fun _ => rfl)).view.dmaCredit = N from rfl)

/-- The wait for a received partial product. -/
theorem wait_got (r : Fin 7) {s : DmaSem sig} (hs : s = fsem 1 r) {src : Memref sig .tc .vmem S1x32x512 .bf16} {o : Fin 3 → ℕ} {hi : ∀ a, o a + S1x32x512.size a ≤ S8x32x512.size a}
    {h₁ : src.view.WordExact} {h₂ : (recvM.slice (Rect.unit (s := S8x32x512) o S1x32x512.size hi) (fun _ => rfl)).view.WordExact} {p : PUnit → Prog (TpuEff nD τ sig (Elt F) Λ₀ .tc) α} {Q : α → sProp 𝕄} :
    env m κ c ⊢ iprop(owesAny c (owedG c) -∗ due c 1 r -∗ (iprop(owesAny c (owedG c) ∗ done c 1 r ∗ has c recvM (rs r) fullShare (got m c r)) -∗ wp frame (wpE (defs₀ (F := F)) 𝒱₀ (c : Thread nD τ) none) Set.univ (p ⟨⟩) Q)
      -∗ wp frame (wpE (defs₀ (F := F)) 𝒱₀ (c : Thread nD τ) none) Set.univ (.op (.waitDma2 s src (recvM.slice (Rect.unit (s := S8x32x512) o S1x32x512.size hi) (fun _ => rfl)) h₁ h₂) p) Q) :=
  step_wait m c κ 1 r hs (owedG c) (mayWait_recv c r) (show (recvM.slice (Rect.unit (s := S8x32x512) o S1x32x512.size hi) (fun _ => rfl)).view.dmaCredit = N from rfl)

/-- The wait that gives a share of the reduced block back. -/
theorem wait_back (r : Fin 7) {s : DmaSem sig} (hs : s = fsem 2 r) {src : Memref sig .tc .vmem S1x32x512 .bf16} {o : Fin 3 → ℕ} {hi : ∀ a, o a + S1x32x512.size a ≤ S8x32x512.size a}
    {h₁ : src.view.WordExact} {h₂ : (gathM.slice (Rect.unit (s := S8x32x512) o S1x32x512.size hi) (fun _ => rfl)).view.WordExact} {p : PUnit → Prog (TpuEff nD τ sig (Elt F) Λ₀ .tc) α} {Q : α → sProp 𝕄} :
    env m κ c ⊢ iprop(owesAny c (0) -∗ due c 2 r -∗ (iprop(owesAny c (0) ∗ done c 2 r ∗ has c gathM c (shareTok fullShare 7 r) (red m c)) -∗ wp frame (wpE (defs₀ (F := F)) 𝒱₀ (c : Thread nD τ) none) Set.univ (p ⟨⟩) Q)
      -∗ wp frame (wpE (defs₀ (F := F)) 𝒱₀ (c : Thread nD τ) none) Set.univ (.op (.waitDma2 s src (gathM.slice (Rect.unit (s := S8x32x512) o S1x32x512.size hi) (fun _ => rfl)) h₁ h₂) p) Q) :=
  step_wait m c κ 2 r hs (0) (mayWait_none c _) (show (gathM.slice (Rect.unit (s := S8x32x512) o S1x32x512.size hi) (fun _ => rfl)).view.dmaCredit = N from rfl)

/-- The wait for another device's reduced block. -/
theorem wait_red (r : Fin 7) {s : DmaSem sig} (hs : s = fsem 3 r) {src : Memref sig .tc .vmem S1x32x512 .bf16} {o : Fin 3 → ℕ} {hi : ∀ a, o a + S1x32x512.size a ≤ S8x32x512.size a}
    {h₁ : src.view.WordExact} {h₂ : (gathM.slice (Rect.unit (s := S8x32x512) o S1x32x512.size hi) (fun _ => rfl)).view.WordExact} {p : PUnit → Prog (TpuEff nD τ sig (Elt F) Λ₀ .tc) α} {Q : α → sProp 𝕄} :
    env m κ c ⊢ iprop(owesAny c (0) -∗ due c 3 r -∗ (iprop(owesAny c (0) ∗ done c 3 r ∗ has c gathM (peer c (rev r)) fullShare (red m (peer c (rev r)))) -∗ wp frame (wpE (defs₀ (F := F)) 𝒱₀ (c : Thread nD τ) none) Set.univ (p ⟨⟩) Q)
      -∗ wp frame (wpE (defs₀ (F := F)) 𝒱₀ (c : Thread nD τ) none) Set.univ (.op (.waitDma2 s src (gathM.slice (Rect.unit (s := S8x32x512) o S1x32x512.size hi) (fun _ => rfl)) h₁ h₂) p) Q) :=
  step_wait m c κ 3 r hs (0) (mayWait_none c _) (show (gathM.slice (Rect.unit (s := S8x32x512) o S1x32x512.size hi) (fun _ => rfl)).view.dmaCredit = N from rfl)

end Named

section Parts

variable (κ : GSem nD τ sig → ℕ) (c : Dev nD)
variable (arg0 : Memref sig .tc .vmem S256x512 .bf16) (harg0 : arg0.IsWhole) (arg1 : Memref sig .tc .vmem S512x256 .bf16) (harg1 : arg1.IsWhole)
variable (arg2 : Memref sig .tc .vmem S2x4x128x64 .bf16) (harg2 : arg2.IsWhole) (arg3 : Memref sig .tc .vmem S2x4x128x64 .bf16) (harg3 : arg3.IsWhole)
variable (arg4 : Memref sig .tc .vmem S256x512 .bf16) (harg4 : arg4.IsWhole) (arg5 : Memref sig .tc .vmem S8x32x512 .f32) (harg5 : arg5.IsWhole)
variable (h6 : ctxM.IsWhole) (h7 : partM.IsWhole) (h8 : recvM.IsWhole) (h9 : gathM.IsWhole)

/-- All blocks of the gather buffer at one share: device `c`'s own, and those of the devices it is a peer of. -/
theorem gath_join (q : PosShare TreeShare) :
    iprop(has c gathM c q (red m c) ∗ bigSep Finset.univ fun r => has c gathM (peer c (rev r)) q (red m (peer c (rev r)))) ⊢ (owns (c : Thread nD τ) gathM q (gath m) : sProp 𝕄) := by
  refine BIBase.Entails.trans ?_ (slots_join c gathM q (gath m))
  simp only [blockOf_gath]
  exact Entails.of_eq (chainPeersRev c (fun j : Dev nD => (has c gathM j q (red m j) : sProp 𝕄))).symm
theorem gath_split (q : PosShare TreeShare) :
    (owns (c : Thread nD τ) gathM q (gath m) : sProp 𝕄) ⊢ iprop(has c gathM c q (red m c) ∗ bigSep Finset.univ fun r => has c gathM (peer c (rev r)) q (red m (peer c (rev r)))) := by
  refine BIBase.Entails.trans (slots_split c gathM q (gath m)) ?_
  simp only [blockOf_gath]
  exact Entails.of_eq (chainPeersRev c (fun j : Dev nD => (has c gathM j q (red m j) : sProp 𝕄)))

theorem part7_wp (v2 : BitVec 32) {Q : _ → sProp 𝕄} :
    env m κ c ⊢ iprop(owesAny c (owedS c) -∗ owns (c : Thread nD τ) arg3 fullShare (vIn m c) -∗ owns (c : Thread nD τ) arg4 fullShare (woIn m c) -∗ hasTile c 0 0 (tile (xIn m c) (wqIn m c) (kIn m c) (vIn m c) 0 0) -∗ hasTile c 0 1 (tile (xIn m c) (wqIn m c) (kIn m c) (vIn m c) 0 1) -∗ hasTile c 0 2 (tile (xIn m c) (wqIn m c) (kIn m c) (vIn m c) 0 2) -∗ hasTile c 0 3 (tile (xIn m c) (wqIn m c) (kIn m c) (vIn m c) 0 3) -∗ hasTile c 1 0 (tile (xIn m c) (wqIn m c) (kIn m c) (vIn m c) 1 0) -∗ hasTile c 1 1 (tile (xIn m c) (wqIn m c) (kIn m c) (vIn m c) 1 1) -∗ hasTile c 1 2 (tile (xIn m c) (wqIn m c) (kIn m c) (vIn m c) 1 2) -∗ anyTile c 1 3 -∗ cred (tallyAt (barCell c) () 7) -∗ atPos ER (barCell c) 0 ∅ 0 -∗ hasAny c partM (peer c 0) -∗ (∀ w, owesAny c (owedS c) -∗ owns (c : Thread nD τ) arg3 fullShare (vIn m c) -∗ owns (c : Thread nD τ) arg4 fullShare (woIn m c) -∗ atPos ER (barCell c) (0 + 1) ∅ 0 -∗ bigSep Finset.univ (fun d => (barPay c d : sProp 𝕄)) -∗ owns (c : Thread nD τ) ctxM fullShare (ctx m c) -∗ has c partM (peer c 0) fullShare (part m c (peer c 0)) -∗ Q ⟨(k0_pay17 (woIn m c)), w⟩)
      -∗ wp frame (wpE (defs₀ (F := F)) 𝒱₀ (c : Thread nD τ) none) Set.univ (k0_part7 (F := F) arg0 harg0 arg1 harg1 arg2 harg2 arg3 harg3 arg4 harg4 arg5 harg5 ctxM h6 partM h7 recvM h8 gathM h9 cc0_scratch4 cc0_scratch5 cc0_scratch6 cc0_scratch7 c v2 (SemArray.scalar (sig.barrier 0 rfl)) (k0_pay14 (k0_pay1 (xIn m c) (wqIn m c)) (blk (kIn m c) 1 3)) (k0_pay15 (k0_pay1 (xIn m c) (wqIn m c)) (blk (kIn m c) 1 3))) Q) := by
  rw [k0_part7_eq_skeleton]; unfold k0_part7_skel
  simp only [semSignalWord, semWaitWord, Prog.lift, Prog.bind_op, Prog.bind_ret, Prog.pure_eq_ret, wp_deviceId]
  iintro #HE Ho H3 H4 T00 T01 T02 T03 T10 T11 T12 T13 Hc Ha P0 Hk
  iapply (step_get c arg3 fullShare (vIn m c) rfl (blk_inb 1 3) (blk (vIn m c) 1 3) rfl) $$ H3; iintro H3
  iapply (tile_see c 1 3 rfl) $$ T13; iintro T13
  iapply (tile_put c 1 3 rfl (pay_tile13 _ _ _ _)) $$ T13; iintro T13
  iapply (step_getAll c arg4 fullShare (woIn m c) (by funext a; fin_cases a <;> rfl)) $$ H4; iintro H4
  iapply (step_barrier m c κ rfl rfl) $$ HE Ho Hc Ha; iintro ⟨Ho, Ha, Hb⟩
  ihave Hx := (tiles_join m c) $$ [T00 T01 T02 T03 T10 T11 T12 T13]
  · rw [chainTiles]
    isplitl [T00]; · iexact T00
    isplitl [T01]; · iexact T01
    isplitl [T02]; · iexact T02
    isplitl [T03]; · iexact T03
    isplitl [T10]; · iexact T10
    isplitl [T11]; · iexact T11
    isplitl [T12]; · iexact T12
    iexact T13
  iapply (rows_get m c (peer c 0) (rows_at c 0 (w := 1#32) rfl)) $$ Hx; iintro Hx
  iapply (step_peek c partM (peer c 0) (slot_at c 0 (w := 1#32) rfl)) $$ P0; iintro P0
  iapply (part_put m c 0 (slot_at c 0 (w := 1#32) rfl) rfl) $$ P0; iintro P0
  rw [wp_ret]
  imodintro
  iapply Hk $$ Ho H3 H4 Ha Hb Hx P0

theorem part8_wp (O : CellTallies nD τ sig Unit) (v2 : BitVec 32) {Q : _ → sProp 𝕄} :
    env m κ c ⊢ iprop(owesAny c (O + fDue c 1 1 + fDue c 1 0) -∗ has c partM (peer c 0) fullShare (part m c (peer c 0)) -∗ scat c 0 -∗ owns (c : Thread nD τ) ctxM fullShare (ctx m c) -∗ hasAny c partM (peer c 1) -∗ scat c 1 -∗ (∀ w w', owesAny c (O) -∗ owns (c : Thread nD τ) ctxM fullShare (ctx m c) -∗ owedBack c 0 0 -∗ owedBack c 0 1 -∗ Q ⟨w, w', k0_pay20 (k0_pay17 (woIn m c)) (rowsOf (ctx m c) (peer c 2))⟩)
      -∗ wp frame (wpE (defs₀ (F := F)) 𝒱₀ (c : Thread nD τ) none) Set.univ (k0_part8 (F := F) arg0 harg0 arg1 harg1 arg2 harg2 arg3 harg3 arg4 harg4 arg5 harg5 ctxM h6 partM h7 recvM h8 gathM h9 cc0_scratch4 cc0_scratch5 cc0_scratch6 cc0_scratch7 c v2 (k0_pay17 (woIn m c))) Q) := by
  rw [k0_part8_eq_skeleton]; unfold k0_part8_skel
  simp only [semSignalWord, semWaitWord, Prog.lift, Prog.bind_op, Prog.bind_ret, Prog.pure_eq_ret, wp_deviceId]
  iintro #HE Ho P0 S0 Hx P1 S1 Hk
  iapply (step_scatter m c κ 0 (dev_peer c 0 rfl (k0_dev8_eq c) (k0_dev8_lt c)) (src_at c 0 (w := 1#32) rfl) rfl rfl rfl _) $$ HE Ho P0 S0; iintro ⟨C0, Ho⟩
  iapply (rows_get m c (peer c 1) (rows_at c 1 (w := 2#32) rfl)) $$ Hx; iintro Hx
  iapply (step_peek c partM (peer c 1) (slot_at c 1 (w := 2#32) rfl)) $$ P1; iintro P1
  iapply (part_put m c 1 (slot_at c 1 (w := 2#32) rfl) rfl) $$ P1; iintro P1
  iapply (step_scatter m c κ 1 (dev_peer c 1 rfl (k0_dev9_eq c) (k0_dev9_lt c)) (src_at c 1 (w := 2#32) rfl) rfl rfl rfl _) $$ HE Ho P1 S1; iintro ⟨C1, Ho⟩
  iapply (rows_get m c (peer c 2) (rows_at c 2 (w := 3#32) rfl)) $$ Hx; iintro Hx
  rw [wp_ret]
  imodintro
  iapply Hk $$ Ho Hx C0 C1

theorem part9_wp (O : CellTallies nD τ sig Unit) (v2 w₀ : BitVec 32) {Q : _ → sProp 𝕄} :
    env m κ c ⊢ iprop(owesAny c (O + fDue c 1 2) -∗ hasAny c partM (peer c 2) -∗ scat c 2 -∗ owns (c : Thread nD τ) ctxM fullShare (ctx m c) -∗ hasAny c partM (peer c 3) -∗ (∀ w, owesAny c (O) -∗ owns (c : Thread nD τ) ctxM fullShare (ctx m c) -∗ owedBack c 0 2 -∗ has c partM (peer c 3) fullShare (part m c (peer c 3)) -∗ Q w)
      -∗ wp frame (wpE (defs₀ (F := F)) 𝒱₀ (c : Thread nD τ) none) Set.univ (k0_part9 (F := F) arg0 harg0 arg1 harg1 arg2 harg2 arg3 harg3 arg4 harg4 arg5 harg5 ctxM h6 partM h7 recvM h8 gathM h9 cc0_scratch4 cc0_scratch5 cc0_scratch6 cc0_scratch7 c v2 (k0_pay17 (woIn m c)) w₀ (k0_pay20 (k0_pay17 (woIn m c)) (rowsOf (ctx m c) (peer c 2)))) Q) := by
  rw [k0_part9_eq_skeleton]; unfold k0_part9_skel
  simp only [semSignalWord, semWaitWord, Prog.lift, Prog.bind_op, Prog.bind_ret, Prog.pure_eq_ret, wp_deviceId]
  iintro #HE Ho P2 S2 Hx P3 Hk
  iapply (step_peek c partM (peer c 2) (slot_at c 2 (w := 3#32) rfl)) $$ P2; iintro P2
  iapply (part_put m c 2 (slot_at c 2 (w := 3#32) rfl) rfl) $$ P2; iintro P2
  iapply (step_scatter m c κ 2 (dev_peer c 2 rfl (k0_dev10_eq c) (k0_dev10_lt c)) (src_at c 2 (w := 3#32) rfl) rfl rfl rfl _) $$ HE Ho P2 S2; iintro ⟨C2, Ho⟩
  iapply (rows_get m c (peer c 3) (rows_at c 3 (w := 4#32) rfl)) $$ Hx; iintro Hx
  iapply (step_peek c partM (peer c 3) (slot_at c 3 (w := 4#32) rfl)) $$ P3; iintro P3
  iapply (part_put m c 3 (slot_at c 3 (w := 4#32) rfl) rfl) $$ P3; iintro P3
  rw [wp_ret]
  imodintro
  iapply Hk $$ Ho Hx C2 P3

theorem part10_wp (O : CellTallies nD τ sig Unit) (v2 : BitVec 32) {Q : _ → sProp 𝕄} :
    env m κ c ⊢ iprop(owesAny c (O + fDue c 1 4 + fDue c 1 3) -∗ has c partM (peer c 3) fullShare (part m c (peer c 3)) -∗ scat c 3 -∗ owns (c : Thread nD τ) ctxM fullShare (ctx m c) -∗ hasAny c partM (peer c 4) -∗ scat c 4 -∗ hasAny c partM (peer c 5) -∗ (∀ w w', owesAny c (O) -∗ owns (c : Thread nD τ) ctxM fullShare (ctx m c) -∗ owedBack c 0 3 -∗ owedBack c 0 4 -∗ hasAny c partM (peer c 5) -∗ Q ⟨w, w', k0_pay24 (k0_pay17 (woIn m c)) (rowsOf (ctx m c) (peer c 5))⟩)
      -∗ wp frame (wpE (defs₀ (F := F)) 𝒱₀ (c : Thread nD τ) none) Set.univ (k0_part10 (F := F) arg0 harg0 arg1 harg1 arg2 harg2 arg3 harg3 arg4 harg4 arg5 harg5 ctxM h6 partM h7 recvM h8 gathM h9 cc0_scratch4 cc0_scratch5 cc0_scratch6 cc0_scratch7 c v2 (k0_pay17 (woIn m c))) Q) := by
  rw [k0_part10_eq_skeleton]; unfold k0_part10_skel
  simp only [semSignalWord, semWaitWord, Prog.lift, Prog.bind_op, Prog.bind_ret, Prog.pure_eq_ret, wp_deviceId]
  iintro #HE Ho P3 S3 Hx P4 S4 P5 Hk
  iapply (step_scatter m c κ 3 (dev_peer c 3 rfl (k0_dev11_eq c) (k0_dev11_lt c)) (src_at c 3 (w := 4#32) rfl) rfl rfl rfl _) $$ HE Ho P3 S3; iintro ⟨C3, Ho⟩
  iapply (rows_get m c (peer c 4) (rows_at c 4 (w := 5#32) rfl)) $$ Hx; iintro Hx
  iapply (step_peek c partM (peer c 4) (slot_at c 4 (w := 5#32) rfl)) $$ P4; iintro P4
  iapply (part_put m c 4 (slot_at c 4 (w := 5#32) rfl) rfl) $$ P4; iintro P4
  iapply (step_scatter m c κ 4 (dev_peer c 4 rfl (k0_dev12_eq c) (k0_dev12_lt c)) (src_at c 4 (w := 5#32) rfl) rfl rfl rfl _) $$ HE Ho P4 S4; iintro ⟨C4, Ho⟩
  iapply (rows_get m c (peer c 5) (rows_at c 5 (w := 6#32) rfl)) $$ Hx; iintro Hx
  iapply (step_peek c partM (peer c 5) (slot_at c 5 (w := 6#32) rfl)) $$ P5; iintro P5
  rw [wp_ret]
  imodintro
  iapply Hk $$ Ho Hx C3 C4 P5

theorem part11_wp (O : CellTallies nD τ sig Unit) (v2 w₀ : BitVec 32) {Q : _ → sProp 𝕄} :
    env m κ c ⊢ iprop(owesAny c (O + fDue c 1 6 + fDue c 1 5) -∗ hasAny c partM (peer c 5) -∗ scat c 5 -∗ owns (c : Thread nD τ) ctxM fullShare (ctx m c) -∗ hasAny c partM (peer c 6) -∗ scat c 6 -∗ (∀ w w', owesAny c (O) -∗ owns (c : Thread nD τ) ctxM fullShare (ctx m c) -∗ owedBack c 0 5 -∗ owedBack c 0 6 -∗ Q ⟨w, w'⟩)
      -∗ wp frame (wpE (defs₀ (F := F)) 𝒱₀ (c : Thread nD τ) none) Set.univ (k0_part11 (F := F) arg0 harg0 arg1 harg1 arg2 harg2 arg3 harg3 arg4 harg4 arg5 harg5 ctxM h6 partM h7 recvM h8 gathM h9 cc0_scratch4 cc0_scratch5 cc0_scratch6 cc0_scratch7 c v2 (k0_pay17 (woIn m c)) w₀ (k0_pay24 (k0_pay17 (woIn m c)) (rowsOf (ctx m c) (peer c 5)))) Q) := by
  rw [k0_part11_eq_skeleton]; unfold k0_part11_skel
  simp only [semSignalWord, semWaitWord, Prog.lift, Prog.bind_op, Prog.bind_ret, Prog.pure_eq_ret, wp_deviceId]
  iintro #HE Ho P5 S5 Hx P6 S6 Hk
  iapply (part_put m c 5 (slot_at c 5 (w := 6#32) rfl) rfl) $$ P5; iintro P5
  iapply (step_scatter m c κ 5 (dev_peer c 5 rfl (k0_dev13_eq c) (k0_dev13_lt c)) (src_at c 5 (w := 6#32) rfl) rfl rfl rfl _) $$ HE Ho P5 S5; iintro ⟨C5, Ho⟩
  iapply (rows_get m c (peer c 6) (rows_at c 6 (w := 7#32) rfl)) $$ Hx; iintro Hx
  iapply (step_peek c partM (peer c 6) (slot_at c 6 (w := 7#32) rfl)) $$ P6; iintro P6
  iapply (part_put m c 6 (slot_at c 6 (w := 7#32) rfl) rfl) $$ P6; iintro P6
  iapply (step_scatter m c κ 6 (dev_peer c 6 rfl (k0_dev14_eq c) (k0_dev14_lt c)) (src_at c 6 (w := 7#32) rfl) rfl rfl rfl _) $$ HE Ho P6 S6; iintro ⟨C6, Ho⟩
  rw [wp_ret]
  imodintro
  iapply Hk $$ Ho Hx C5 C6

theorem part12_wp (w₀ w₁ w₂ w₃ : BitVec 32) {Q : _ → sProp 𝕄} :
    env m κ c ⊢ iprop(owesAny c (owedG c) -∗ owns (c : Thread nD τ) ctxM fullShare (ctx m c) -∗ due c 1 0 -∗ due c 1 1 -∗ (owesAny c (owedG c) -∗ owns (c : Thread nD τ) ctxM fullShare (ctx m c) -∗ done c 1 0 -∗ has c recvM (rs 0) fullShare (got m c 0) -∗ done c 1 1 -∗ has c recvM (rs 1) fullShare (got m c 1) -∗ Q (k0_pay26 (k0_pay17 (woIn m c)) (rowsOf (ctx m c) c) (got m c 0) (got m c 1)))
      -∗ wp frame (wpE (defs₀ (F := F)) 𝒱₀ (c : Thread nD τ) none) Set.univ (k0_part12 (F := F) arg0 harg0 arg1 harg1 arg2 harg2 arg3 harg3 arg4 harg4 arg5 harg5 ctxM h6 partM h7 recvM h8 gathM h9 cc0_scratch4 cc0_scratch5 cc0_scratch6 cc0_scratch7 c (k0_pay17 (woIn m c)) w₀ w₁ w₂ w₃) Q) := by
  rw [k0_part12_eq_skeleton]; unfold k0_part12_skel
  simp only [semSignalWord, semWaitWord, Prog.lift, Prog.bind_op, Prog.bind_ret, Prog.pure_eq_ret, wp_deviceId]
  iintro #HE Ho Hx D10 D11 Hk
  iapply (rows_get m c c (k0_off4_eq c)) $$ Hx; iintro Hx
  iapply (wait_got m κ c 0 rfl) $$ HE Ho D10; iintro ⟨Ho, D10, R0⟩
  iapply (step_load c recvM (rs 0) fullShare (got m c 0) rfl) $$ R0; iintro R0
  iapply (wait_got m κ c 1 rfl) $$ HE Ho D11; iintro ⟨Ho, D11, R1⟩
  iapply (step_load c recvM (rs 1) fullShare (got m c 1) rfl) $$ R1; iintro R1
  rw [wp_ret]
  imodintro
  iapply Hk $$ Ho Hx D10 R0 D11 R1

theorem part13_wp (w₀ w₁ : BitVec 32) {Q : _ → sProp 𝕄} :
    env m κ c ⊢ iprop(owesAny c (owedG c) -∗ due c 1 2 -∗ due c 1 3 -∗ due c 1 4 -∗ (owesAny c (owedG c) -∗ done c 1 2 -∗ has c recvM (rs 2) fullShare (got m c 2) -∗ done c 1 3 -∗ has c recvM (rs 3) fullShare (got m c 3) -∗ done c 1 4 -∗ has c recvM (rs 4) fullShare (got m c 4) -∗ Q ⟨k0_pay27 (k0_pay26 (k0_pay17 (woIn m c)) (rowsOf (ctx m c) c) (got m c 0) (got m c 1)) (got m c 2) (got m c 3), k0_pay28 (got m c 4)⟩)
      -∗ wp frame (wpE (defs₀ (F := F)) 𝒱₀ (c : Thread nD τ) none) Set.univ (k0_part13 (F := F) arg0 harg0 arg1 harg1 arg2 harg2 arg3 harg3 arg4 harg4 arg5 harg5 ctxM h6 partM h7 recvM h8 gathM h9 cc0_scratch4 cc0_scratch5 cc0_scratch6 cc0_scratch7 c w₀ w₁ (k0_pay26 (k0_pay17 (woIn m c)) (rowsOf (ctx m c) c) (got m c 0) (got m c 1))) Q) := by
  rw [k0_part13_eq_skeleton]; unfold k0_part13_skel
  simp only [semSignalWord, semWaitWord, Prog.lift, Prog.bind_op, Prog.bind_ret, Prog.pure_eq_ret, wp_deviceId]
  iintro #HE Ho D12 D13 D14 Hk
  iapply (wait_got m κ c 2 rfl) $$ HE Ho D12; iintro ⟨Ho, D12, R2⟩
  iapply (step_load c recvM (rs 2) fullShare (got m c 2) rfl) $$ R2; iintro R2
  iapply (wait_got m κ c 3 rfl) $$ HE Ho D13; iintro ⟨Ho, D13, R3⟩
  iapply (step_load c recvM (rs 3) fullShare (got m c 3) rfl) $$ R3; iintro R3
  iapply (wait_got m κ c 4 rfl) $$ HE Ho D14; iintro ⟨Ho, D14, R4⟩
  iapply (step_load c recvM (rs 4) fullShare (got m c 4) rfl) $$ R4; iintro R4
  rw [wp_ret]
  imodintro
  iapply Hk $$ Ho D12 R2 D13 R3 D14 R4

theorem part14_wp (w₀ w₁ w₂ : BitVec 32) {Q : _ → sProp 𝕄} :
    env m κ c ⊢ iprop(owesAny c (owedG c) -∗ due c 1 5 -∗ due c 1 6 -∗ hasAny c gathM c -∗ (∀ w, owesAny c (owedG c) -∗ done c 1 5 -∗ has c recvM (rs 5) fullShare (got m c 5) -∗ done c 1 6 -∗ has c recvM (rs 6) fullShare (got m c 6) -∗ has c gathM c fullShare (red m c) -∗ Q w)
      -∗ wp frame (wpE (defs₀ (F := F)) 𝒱₀ (c : Thread nD τ) none) Set.univ (k0_part14 (F := F) arg0 harg0 arg1 harg1 arg2 harg2 arg3 harg3 arg4 harg4 arg5 harg5 ctxM h6 partM h7 recvM h8 gathM h9 cc0_scratch4 cc0_scratch5 cc0_scratch6 cc0_scratch7 c w₀ w₁ w₂ (k0_pay27 (k0_pay26 (k0_pay17 (woIn m c)) (rowsOf (ctx m c) c) (got m c 0) (got m c 1)) (got m c 2) (got m c 3)) (k0_pay28 (got m c 4))) Q) := by
  rw [k0_part14_eq_skeleton]; unfold k0_part14_skel
  simp only [semSignalWord, semWaitWord, Prog.lift, Prog.bind_op, Prog.bind_ret, Prog.pure_eq_ret, wp_deviceId]
  iintro #HE Ho D15 D16 Hg Hk
  iapply (wait_got m κ c 5 rfl) $$ HE Ho D15; iintro ⟨Ho, D15, R5⟩
  iapply (step_load c recvM (rs 5) fullShare (got m c 5) rfl) $$ R5; iintro R5
  iapply (wait_got m κ c 6 rfl) $$ HE Ho D16; iintro ⟨Ho, D16, R6⟩
  iapply (step_load c recvM (rs 6) fullShare (got m c 6) rfl) $$ R6; iintro R6
  iapply (step_peek c gathM c (k0_off5_eq c)) $$ Hg; iintro Hg
  iapply (red_put m c (k0_off5_eq c) rfl) $$ Hg; iintro Hg
  rw [wp_ret]
  imodintro
  iapply Hk $$ Ho D15 R5 D16 R6 Hg

theorem part15_wp (O : CellTallies nD τ sig Unit) (w₀ w₁ : BitVec 32) {Q : _ → sProp 𝕄} :
    env m κ c ⊢ iprop(owesAny c (O + fDue c 3 2 + fDue c 3 1 + fDue c 3 0) -∗ has c gathM c (shareTok fullShare 7 0) (red m c) -∗ gat c 0 -∗ has c gathM c (shareTok fullShare 7 1) (red m c) -∗ gat c 1 -∗ has c gathM c (shareTok fullShare 7 2) (red m c) -∗ gat c 2 -∗ (∀ w w', owesAny c (O) -∗ owedBack c 2 0 -∗ owedBack c 2 1 -∗ owedBack c 2 2 -∗ Q ⟨w, w', 4#32⟩)
      -∗ wp frame (wpE (defs₀ (F := F)) 𝒱₀ (c : Thread nD τ) none) Set.univ (k0_part15 (F := F) arg0 harg0 arg1 harg1 arg2 harg2 arg3 harg3 arg4 harg4 arg5 harg5 ctxM h6 partM h7 recvM h8 gathM h9 cc0_scratch4 cc0_scratch5 cc0_scratch6 cc0_scratch7 c w₀ w₁) Q) := by
  rw [k0_part15_eq_skeleton]; unfold k0_part15_skel
  simp only [semSignalWord, semWaitWord, Prog.lift, Prog.bind_op, Prog.bind_ret, Prog.pure_eq_ret, wp_deviceId]
  iintro #HE Ho K0 S0 K1 S1 K2 S2 Hk
  iapply (step_gather m c κ 0 (dev_peer c 0 rfl (k0_dev15_eq c) (k0_dev15_lt c)) (k0_off6_eq c) rfl rfl _) $$ HE Ho K0 S0; iintro ⟨C0, Ho⟩
  iapply (step_gather m c κ 1 (dev_peer c 1 rfl (k0_dev16_eq c) (k0_dev16_lt c)) (k0_off6_eq c) rfl rfl _) $$ HE Ho K1 S1; iintro ⟨C1, Ho⟩
  iapply (step_gather m c κ 2 (dev_peer c 2 rfl (k0_dev17_eq c) (k0_dev17_lt c)) (k0_off6_eq c) rfl rfl _) $$ HE Ho K2 S2; iintro ⟨C2, Ho⟩
  rw [wp_ret]
  imodintro
  iapply Hk $$ Ho C0 C1 C2

theorem part16_wp (O : CellTallies nD τ sig Unit) (w₀ w₁ : BitVec 32) {Q : _ → sProp 𝕄} :
    env m κ c ⊢ iprop(owesAny c (O + fDue c 3 4 + fDue c 3 3) -∗ has c gathM c (shareTok fullShare 7 3) (red m c) -∗ gat c 3 -∗ has c gathM c (shareTok fullShare 7 4) (red m c) -∗ gat c 4 -∗ (∀ w w' w'', owesAny c (O) -∗ owedBack c 2 3 -∗ owedBack c 2 4 -∗ Q ⟨w, w', w''⟩)
      -∗ wp frame (wpE (defs₀ (F := F)) 𝒱₀ (c : Thread nD τ) none) Set.univ (k0_part16 (F := F) arg0 harg0 arg1 harg1 arg2 harg2 arg3 harg3 arg4 harg4 arg5 harg5 ctxM h6 partM h7 recvM h8 gathM h9 cc0_scratch4 cc0_scratch5 cc0_scratch6 cc0_scratch7 c w₀ w₁) Q) := by
  rw [k0_part16_eq_skeleton]; unfold k0_part16_skel
  simp only [semSignalWord, semWaitWord, Prog.lift, Prog.bind_op, Prog.bind_ret, Prog.pure_eq_ret, wp_deviceId]
  iintro #HE Ho K3 S3 K4 S4 Hk
  iapply (step_gather m c κ 3 (dev_peer c 3 rfl (k0_dev18_eq c) (k0_dev18_lt c)) (k0_off6_eq c) rfl rfl _) $$ HE Ho K3 S3; iintro ⟨C3, Ho⟩
  iapply (step_gather m c κ 4 (dev_peer c 4 rfl (k0_dev19_eq c) (k0_dev19_lt c)) (k0_off6_eq c) rfl rfl _) $$ HE Ho K4 S4; iintro ⟨C4, Ho⟩
  rw [wp_ret]
  imodintro
  iapply Hk $$ Ho C3 C4

theorem part17_wp (w₀ w₁ w₂ w₃ : BitVec 32) {Q : _ → sProp 𝕄} :
    env m κ c ⊢ iprop(owesAny c (0 + fDue c 3 6 + fDue c 3 5) -∗ has c gathM c (shareTok fullShare 7 5) (red m c) -∗ gat c 5 -∗ has c gathM c (shareTok fullShare 7 6) (red m c) -∗ gat c 6 -∗ due c 3 0 -∗ due c 3 1 -∗ (∀ w, owesAny c (0) -∗ owedBack c 2 5 -∗ owedBack c 2 6 -∗ done c 3 0 -∗ has c gathM (peer c (rev 0)) fullShare (red m (peer c (rev 0))) -∗ done c 3 1 -∗ has c gathM (peer c (rev 1)) fullShare (red m (peer c (rev 1))) -∗ Q w)
      -∗ wp frame (wpE (defs₀ (F := F)) 𝒱₀ (c : Thread nD τ) none) Set.univ (k0_part17 (F := F) arg0 harg0 arg1 harg1 arg2 harg2 arg3 harg3 arg4 harg4 arg5 harg5 ctxM h6 partM h7 recvM h8 gathM h9 cc0_scratch4 cc0_scratch5 cc0_scratch6 cc0_scratch7 c w₀ w₁ w₂ w₃) Q) := by
  rw [k0_part17_eq_skeleton]; unfold k0_part17_skel
  simp only [semSignalWord, semWaitWord, Prog.lift, Prog.bind_op, Prog.bind_ret, Prog.pure_eq_ret, wp_deviceId]
  iintro #HE Ho K5 S5 K6 S6 D30 D31 Hk
  iapply (step_gather m c κ 5 (dev_peer c 5 rfl (k0_dev20_eq c) (k0_dev20_lt c)) (k0_off6_eq c) rfl rfl _) $$ HE Ho K5 S5; iintro ⟨C5, Ho⟩
  iapply (step_gather m c κ 6 (dev_peer c 6 rfl (k0_dev21_eq c) (k0_dev21_lt c)) (k0_off6_eq c) rfl rfl _) $$ HE Ho K6 S6; iintro ⟨C6, Ho⟩
  iapply (wait_red m κ c 0 rfl) $$ HE Ho D30; iintro ⟨Ho, D30, G0⟩
  iapply (wait_red m κ c 1 rfl) $$ HE Ho D31; iintro ⟨Ho, D31, G1⟩
  rw [wp_ret]
  imodintro
  iapply Hk $$ Ho C5 C6 D30 G0 D31 G1

theorem part18_wp (w₀ w₁ w₂ w₃ : BitVec 32) {Q : _ → sProp 𝕄} :
    env m κ c ⊢ iprop(owesAny c (0) -∗ due c 3 2 -∗ due c 3 3 -∗ due c 3 4 -∗ due c 3 5 -∗ (owesAny c (0) -∗ done c 3 2 -∗ has c gathM (peer c (rev 2)) fullShare (red m (peer c (rev 2))) -∗ done c 3 3 -∗ has c gathM (peer c (rev 3)) fullShare (red m (peer c (rev 3))) -∗ done c 3 4 -∗ has c gathM (peer c (rev 4)) fullShare (red m (peer c (rev 4))) -∗ done c 3 5 -∗ has c gathM (peer c (rev 5)) fullShare (red m (peer c (rev 5))) -∗ Q ⟨⟩)
      -∗ wp frame (wpE (defs₀ (F := F)) 𝒱₀ (c : Thread nD τ) none) Set.univ (k0_part18 (F := F) arg0 harg0 arg1 harg1 arg2 harg2 arg3 harg3 arg4 harg4 arg5 harg5 ctxM h6 partM h7 recvM h8 gathM h9 cc0_scratch4 cc0_scratch5 cc0_scratch6 cc0_scratch7 c w₀ w₁ w₂ w₃) Q) := by
  rw [k0_part18_eq_skeleton]; unfold k0_part18_skel
  simp only [semSignalWord, semWaitWord, Prog.lift, Prog.bind_op, Prog.bind_ret, Prog.pure_eq_ret, wp_deviceId]
  iintro #HE Ho D32 D33 D34 D35 Hk
  iapply (wait_red m κ c 2 rfl) $$ HE Ho D32; iintro ⟨Ho, D32, G2⟩
  iapply (wait_red m κ c 3 rfl) $$ HE Ho D33; iintro ⟨Ho, D33, G3⟩
  iapply (wait_red m κ c 4 rfl) $$ HE Ho D34; iintro ⟨Ho, D34, G4⟩
  iapply (wait_red m κ c 5 rfl) $$ HE Ho D35; iintro ⟨Ho, D35, G5⟩
  rw [wp_ret]
  imodintro
  iapply Hk $$ Ho D32 G2 D33 G3 D34 G4 D35 G5

theorem part19_wp {Q : _ → sProp 𝕄} :
    env m κ c ⊢ iprop(owesAny c (0) -∗ due c 3 6 -∗ has c gathM c (shareDrop fullShare 7) (red m c) -∗ has c gathM (peer c (rev 0)) fullShare (red m (peer c (rev 0))) -∗ has c gathM (peer c (rev 1)) fullShare (red m (peer c (rev 1))) -∗ has c gathM (peer c (rev 2)) fullShare (red m (peer c (rev 2))) -∗ has c gathM (peer c (rev 3)) fullShare (red m (peer c (rev 3))) -∗ has c gathM (peer c (rev 4)) fullShare (red m (peer c (rev 4))) -∗ has c gathM (peer c (rev 5)) fullShare (red m (peer c (rev 5))) -∗ iprop(∃ Y, owns (c : Thread nD τ) arg5 fullShare Y) -∗ due c 0 0 -∗ due c 0 1 -∗ due c 0 2 -∗ (owesAny c (0) -∗ done c 3 6 -∗ has c gathM c (shareDrop fullShare 7) (red m c) -∗ has c gathM (peer c (rev 0)) fullShare (red m (peer c (rev 0))) -∗ has c gathM (peer c (rev 1)) fullShare (red m (peer c (rev 1))) -∗ has c gathM (peer c (rev 2)) fullShare (red m (peer c (rev 2))) -∗ has c gathM (peer c (rev 3)) fullShare (red m (peer c (rev 3))) -∗ has c gathM (peer c (rev 4)) fullShare (red m (peer c (rev 4))) -∗ has c gathM (peer c (rev 5)) fullShare (red m (peer c (rev 5))) -∗ has c gathM (peer c (rev 6)) fullShare (red m (peer c (rev 6))) -∗ owns (c : Thread nD τ) arg5 fullShare (outV m) -∗ done c 0 0 -∗ hasAny c partM (peer c 0) -∗ done c 0 1 -∗ hasAny c partM (peer c 1) -∗ done c 0 2 -∗ hasAny c partM (peer c 2) -∗ Q ⟨⟩)
      -∗ wp frame (wpE (defs₀ (F := F)) 𝒱₀ (c : Thread nD τ) none) Set.univ (k0_part19 (F := F) arg0 harg0 arg1 harg1 arg2 harg2 arg3 harg3 arg4 harg4 arg5 harg5 ctxM h6 partM h7 recvM h8 gathM h9 cc0_scratch4 cc0_scratch5 cc0_scratch6 cc0_scratch7 c) Q) := by
  rw [k0_part19_eq_skeleton]; unfold k0_part19_skel
  simp only [semSignalWord, semWaitWord, Prog.lift, Prog.bind_op, Prog.bind_ret, Prog.pure_eq_ret, wp_deviceId]
  iintro #HE Ho D36 Hg G0 G1 G2 G3 G4 G5 H5 D00 D01 D02 Hk
  iapply (wait_red m κ c 6 rfl) $$ HE Ho D36; iintro ⟨Ho, D36, G6⟩
  icases (lend c gathM (peer c (rev 0)) (red m (peer c (rev 0)))) $$ G0 with ⟨G0, L0⟩
  icases (lend c gathM (peer c (rev 1)) (red m (peer c (rev 1)))) $$ G1 with ⟨G1, L1⟩
  icases (lend c gathM (peer c (rev 2)) (red m (peer c (rev 2)))) $$ G2 with ⟨G2, L2⟩
  icases (lend c gathM (peer c (rev 3)) (red m (peer c (rev 3)))) $$ G3 with ⟨G3, L3⟩
  icases (lend c gathM (peer c (rev 4)) (red m (peer c (rev 4)))) $$ G4 with ⟨G4, L4⟩
  icases (lend c gathM (peer c (rev 5)) (red m (peer c (rev 5)))) $$ G5 with ⟨G5, L5⟩
  icases (lend c gathM (peer c (rev 6)) (red m (peer c (rev 6)))) $$ G6 with ⟨G6, L6⟩
  ihave Hg := (gath_join m c (shareDrop fullShare 7)) $$ [Hg G0 G1 G2 G3 G4 G5 G6]
  · isplitl [Hg]; · iexact Hg
    iapply (Entails.of_eq (chain7 (fun r => has c gathM (peer c (rev r)) (shareDrop fullShare 7) (red m (peer c (rev r))))).symm)
    isplitl [G0]; · iexact G0
    isplitl [G1]; · iexact G1
    isplitl [G2]; · iexact G2
    isplitl [G3]; · iexact G3
    isplitl [G4]; · iexact G4
    isplitl [G5]; · iexact G5
    iexact G6
  iapply (step_getAll c gathM (shareDrop fullShare 7) (gath m) (by funext a; fin_cases a <;> rfl)) $$ Hg; iintro Hg
  icases (gath_split m c (shareDrop fullShare 7)) $$ Hg with ⟨Hg, HG⟩
  icases (Entails.of_eq (chain7 (fun r => has c gathM (peer c (rev r)) (shareDrop fullShare 7) (red m (peer c (rev r)))))) $$ HG with ⟨G0, G1, G2, G3, G4, G5, G6⟩
  ihave G0 := (regain c gathM (peer c (rev 0)) (red m (peer c (rev 0)))) $$ [G0 L0]
  · isplitl [G0]; · iexact G0
    iexact L0
  ihave G1 := (regain c gathM (peer c (rev 1)) (red m (peer c (rev 1)))) $$ [G1 L1]
  · isplitl [G1]; · iexact G1
    iexact L1
  ihave G2 := (regain c gathM (peer c (rev 2)) (red m (peer c (rev 2)))) $$ [G2 L2]
  · isplitl [G2]; · iexact G2
    iexact L2
  ihave G3 := (regain c gathM (peer c (rev 3)) (red m (peer c (rev 3)))) $$ [G3 L3]
  · isplitl [G3]; · iexact G3
    iexact L3
  ihave G4 := (regain c gathM (peer c (rev 4)) (red m (peer c (rev 4)))) $$ [G4 L4]
  · isplitl [G4]; · iexact G4
    iexact L4
  ihave G5 := (regain c gathM (peer c (rev 5)) (red m (peer c (rev 5)))) $$ [G5 L5]
  · isplitl [G5]; · iexact G5
    iexact L5
  ihave G6 := (regain c gathM (peer c (rev 6)) (red m (peer c (rev 6)))) $$ [G6 L6]
  · isplitl [G6]; · iexact G6
    iexact L6
  icases H5 with ⟨%Y, H5⟩
  iapply (step_getAll c arg5 fullShare Y (by funext a; fin_cases a <;> rfl)) $$ H5; iintro H5
  iapply (step_putAll c arg5 (w := outV m) (by funext a; fin_cases a <;> rfl)) $$ [H5]
  · iexists Y; iexact H5
  iintro H5
  iapply (wait_part m κ c 0 rfl) $$ HE Ho D00; iintro ⟨Ho, D00, P0⟩
  iapply (wait_part m κ c 1 rfl) $$ HE Ho D01; iintro ⟨Ho, D01, P1⟩
  iapply (wait_part m κ c 2 rfl) $$ HE Ho D02; iintro ⟨Ho, D02, P2⟩
  rw [wp_ret]
  imodintro
  iapply Hk $$ Ho D36 Hg G0 G1 G2 G3 G4 G5 G6 H5 D00 P0 D01 P1 D02 P2

theorem part20_wp {Q : _ → sProp 𝕄} :
    env m κ c ⊢ iprop(owesAny c (0) -∗ due c 0 3 -∗ due c 0 4 -∗ due c 0 5 -∗ due c 0 6 -∗ (owesAny c (0) -∗ done c 0 3 -∗ hasAny c partM (peer c 3) -∗ done c 0 4 -∗ hasAny c partM (peer c 4) -∗ done c 0 5 -∗ hasAny c partM (peer c 5) -∗ done c 0 6 -∗ hasAny c partM (peer c 6) -∗ Q ⟨⟩)
      -∗ wp frame (wpE (defs₀ (F := F)) 𝒱₀ (c : Thread nD τ) none) Set.univ (k0_part20 (F := F) arg0 harg0 arg1 harg1 arg2 harg2 arg3 harg3 arg4 harg4 arg5 harg5 ctxM h6 partM h7 recvM h8 gathM h9 cc0_scratch4 cc0_scratch5 cc0_scratch6 cc0_scratch7 c) Q) := by
  rw [k0_part20_eq_skeleton]; unfold k0_part20_skel
  simp only [semSignalWord, semWaitWord, Prog.lift, Prog.bind_op, Prog.bind_ret, Prog.pure_eq_ret, wp_deviceId]
  iintro #HE Ho D03 D04 D05 D06 Hk
  iapply (wait_part m κ c 3 rfl) $$ HE Ho D03; iintro ⟨Ho, D03, P3⟩
  iapply (wait_part m κ c 4 rfl) $$ HE Ho D04; iintro ⟨Ho, D04, P4⟩
  iapply (wait_part m κ c 5 rfl) $$ HE Ho D05; iintro ⟨Ho, D05, P5⟩
  iapply (wait_part m κ c 6 rfl) $$ HE Ho D06; iintro ⟨Ho, D06, P6⟩
  rw [wp_ret]
  imodintro
  iapply Hk $$ Ho D03 P3 D04 P4 D05 P5 D06 P6

theorem part21_wp {Q : _ → sProp 𝕄} :
    env m κ c ⊢ iprop(owesAny c (0) -∗ due c 2 0 -∗ due c 2 1 -∗ due c 2 2 -∗ due c 2 3 -∗ due c 2 4 -∗ (owesAny c (0) -∗ done c 2 0 -∗ has c gathM c (shareTok fullShare 7 0) (red m c) -∗ done c 2 1 -∗ has c gathM c (shareTok fullShare 7 1) (red m c) -∗ done c 2 2 -∗ has c gathM c (shareTok fullShare 7 2) (red m c) -∗ done c 2 3 -∗ has c gathM c (shareTok fullShare 7 3) (red m c) -∗ done c 2 4 -∗ has c gathM c (shareTok fullShare 7 4) (red m c) -∗ Q ⟨⟩)
      -∗ wp frame (wpE (defs₀ (F := F)) 𝒱₀ (c : Thread nD τ) none) Set.univ (k0_part21 (F := F) arg0 harg0 arg1 harg1 arg2 harg2 arg3 harg3 arg4 harg4 arg5 harg5 ctxM h6 partM h7 recvM h8 gathM h9 cc0_scratch4 cc0_scratch5 cc0_scratch6 cc0_scratch7 c) Q) := by
  rw [k0_part21_eq_skeleton]; unfold k0_part21_skel
  simp only [semSignalWord, semWaitWord, Prog.lift, Prog.bind_op, Prog.bind_ret, Prog.pure_eq_ret, wp_deviceId]
  iintro #HE Ho D20 D21 D22 D23 D24 Hk
  iapply (wait_back m κ c 0 rfl) $$ HE Ho D20; iintro ⟨Ho, D20, K0⟩
  iapply (wait_back m κ c 1 rfl) $$ HE Ho D21; iintro ⟨Ho, D21, K1⟩
  iapply (wait_back m κ c 2 rfl) $$ HE Ho D22; iintro ⟨Ho, D22, K2⟩
  iapply (wait_back m κ c 3 rfl) $$ HE Ho D23; iintro ⟨Ho, D23, K3⟩
  iapply (wait_back m κ c 4 rfl) $$ HE Ho D24; iintro ⟨Ho, D24, K4⟩
  rw [wp_ret]
  imodintro
  iapply Hk $$ Ho D20 K0 D21 K1 D22 K2 D23 K3 D24 K4

end Parts

end Cert.KernelIdeal.Run

end
-- ==== Proof.Body.lean ====
/- The kernel's body on a device, from its operands and its share of the protocol to the result. -/
module

public import proofs.«01_k».proof.Proof.Parts2

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Idealize.ShloMosaic.ValueIdx (ix2 ix3)
open Idealize.ShloMosaic.Transfers (shareTok shareDrop)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-- What device `c` brings to the exchange with peer `r`: the tokens of its signal and of its two copies at both ends. -/
def toks (c : Dev nD) (r : Fin 7) : sProp 𝕄 :=
  iprop(dutyTok ER (barCell (peer c r)) 0 (rev r) ∗ dutyTok ER (fCell c 0 r) 0 0 ∗ dutyTok ER (fCell (peer c r) 1 r) 0 0
    ∗ dutyTok ER (fCell c 2 r) 0 0 ∗ dutyTok ER (fCell (peer c r) 3 r) 0 0)
/-- The places of the four waits of index `r`, and the credits of the two that peers pay. -/
def seats (c : Dev nD) (r : Fin 7) : sProp 𝕄 :=
  iprop(atPos ER (fCell c 0 r) 0 ∅ 0 ∗ due c 1 r ∗ atPos ER (fCell c 2 r) 0 ∅ 0 ∗ due c 3 r)
/-- The four waits of index `r` are over. -/
def seatsDone (c : Dev nD) (r : Fin 7) : sProp 𝕄 := iprop(done c 0 r ∗ done c 1 r ∗ done c 2 r ∗ done c 3 r)
/-- A buffer of device `c` at some contents. -/
abbrev some_ {s : Shape} {e : EltTy} (c : Dev nD) (M : Memref sig .tc .vmem s e) : sProp 𝕄 := iprop(∃ X, owns (c : Thread nD τ) M fullShare X)
/-- The device's share of the protocol at the start, its scratch buffers included. -/
def before (c : Dev nD) : sProp 𝕄 :=
  iprop(owesAny c (O₀ c) ∗ cred (tallyAt (barCell c) () 7) ∗ atPos ER (barCell c) 0 ∅ 0 ∗ bigSep Finset.univ (toks c) ∗ bigSep Finset.univ (seats c)
    ∗ some_ c ctxM ∗ some_ c partM ∗ some_ c recvM ∗ some_ c gathM)
/-- The same at the end. -/
def after (c : Dev nD) : sProp 𝕄 :=
  iprop(owesAny c 0 ∗ atPos ER (barCell c) (0 + 1) ∅ 0 ∗ bigSep Finset.univ (seatsDone c) ∗ some_ c ctxM ∗ some_ c partM ∗ some_ c recvM ∗ some_ c gathM)

omit [FloatOps F] in
theorem mono7 {Φ Ψ : Fin 7 → sProp (MT nD τ sig Unit (Elt F) ℕ UU ℕ)} (h : ∀ r, Φ r ⊢ Ψ r) : bigSep Finset.univ Φ ⊢ bigSep Finset.univ Ψ := BI.bigSep_mono fun r _ => h r

/-- The signals' bundles, out of their tokens, the receive slots and the gather slots of the peers. -/
theorem sig_split (c : Dev nD) :
    iprop(bigSep Finset.univ (toks c) ∗ some_ c recvM ∗ some_ c gathM)
      ⊢ iprop((bigSep Finset.univ (sigR c)) ∗ (hasAny c recvM 0 ∗ hasAny c gathM c)
        ∗ bigSep Finset.univ fun r => iprop(dutyTok ER (fCell c 0 r) 0 0 ∗ dutyTok ER (fCell (peer c r) 1 r) 0 0
          ∗ dutyTok ER (fCell c 2 r) 0 0 ∗ (dutyTok ER (fCell (peer c r) 3 r) 0 0 : sProp 𝕄))) := by
  iintro ⟨Ht, Hr, Hg⟩
  ihave Hr := (slots_any c recvM) $$ Hr
  ihave Hg := (slots_any c gathM) $$ Hg
  icases (Entails.of_eq (chainSlots (fun j => (hasAny c recvM j : sProp 𝕄)))) $$ Hr with ⟨Hr0, Hr⟩
  icases (Entails.of_eq (chainPeers c (fun j : Dev nD => (hasAny c gathM j : sProp 𝕄)))) $$ Hg with ⟨Hg0, Hg⟩
  icases (Entails.of_eq (chain7 (fun r => (hasAny c recvM (rs r) : sProp 𝕄)))) $$ Hr with ⟨R0, R1, R2, R3, R4, R5, R6⟩
  ihave Hr := (Entails.of_eq (chain7 (fun r => (hasAny c recvM (rs (rev r)) : sProp 𝕄))).symm) $$ [R0 R1 R2 R3 R4 R5 R6]
  · isplitl [R6]; · iexact R6
    isplitl [R5]; · iexact R5
    isplitl [R4]; · iexact R4
    isplitl [R3]; · iexact R3
    isplitl [R2]; · iexact R2
    isplitl [R1]; · iexact R1
    iexact R0
  ihave H := (Entails.of_eq (bigSep_sep' Finset.univ (fun r => (hasAny c recvM (rs (rev r)) : sProp 𝕄)) (fun r => hasAny c gathM (peer c r))).symm) $$ [Hr Hg]
  · isplitl [Hr]; · iexact Hr
    iexact Hg
  ihave H := (Entails.of_eq (bigSep_sep' Finset.univ (toks c) (fun r => iprop(hasAny c recvM (rs (rev r)) ∗ (hasAny c gathM (peer c r) : sProp 𝕄)))).symm) $$ [Ht H]
  · isplitl [Ht]; · iexact Ht
    iexact H
  ihave H := (mono7 (Φ := fun r => iprop(toks c r ∗ hasAny c recvM (rs (rev r)) ∗ hasAny c gathM (peer c r)))
      (Ψ := fun r => iprop(sigR c r ∗ (dutyTok ER (fCell c 0 r) 0 0 ∗ dutyTok ER (fCell (peer c r) 1 r) 0 0
          ∗ dutyTok ER (fCell c 2 r) 0 0 ∗ (dutyTok ER (fCell (peer c r) 3 r) 0 0 : sProp 𝕄)))) (fun r => by
    show iprop(toks c r ∗ hasAny c recvM (rs (rev r)) ∗ hasAny c gathM (peer c r)) ⊢ iprop(sigR c r ∗ (dutyTok ER (fCell c 0 r) 0 0
        ∗ dutyTok ER (fCell (peer c r) 1 r) 0 0 ∗ dutyTok ER (fCell c 2 r) 0 0 ∗ (dutyTok ER (fCell (peer c r) 3 r) 0 0 : sProp 𝕄)))
    unfold toks sigR
    iintro ⟨⟨H1, H2⟩, H3, H4⟩
    isplitl [H1 H3 H4]
    · isplitl [H1]; · iexact H1
      isplitl [H3]; · iexact H3
      iexact H4
    iexact H2)) $$ H
  icases (Entails.of_eq (bigSep_sep' Finset.univ (sigR c) _)) $$ H with ⟨Hs, Ht⟩
  isplitl [Hs]; · iexact Hs
  isplitl [Hr0 Hg0]
  · isplitl [Hr0]; · iexact Hr0
    iexact Hg0
  iexact Ht

/-- The copies' bundles, out of what the barrier brought and the copies' tokens. -/
theorem copies_split (c : Dev nD) :
    iprop((bigSep Finset.univ fun r => (barPay c r : sProp 𝕄)) ∗ bigSep Finset.univ fun r => iprop(dutyTok ER (fCell c 0 r) 0 0 ∗ dutyTok ER (fCell (peer c r) 1 r) 0 0
          ∗ dutyTok ER (fCell c 2 r) 0 0 ∗ (dutyTok ER (fCell (peer c r) 3 r) 0 0 : sProp 𝕄)))
      ⊢ iprop((bigSep Finset.univ (scat c)) ∗ (bigSep Finset.univ (gat c) : sProp 𝕄)) := by
  rw [← bigSep_sep', ← bigSep_sep']
  refine BI.bigSep_mono fun r _ => ?_
  show iprop(barPay c r ∗ dutyTok ER (fCell c 0 r) 0 0 ∗ dutyTok ER (fCell (peer c r) 1 r) 0 0
          ∗ dutyTok ER (fCell c 2 r) 0 0 ∗ (dutyTok ER (fCell (peer c r) 3 r) 0 0 : sProp 𝕄)) ⊢ iprop(scat c r ∗ gat c r)
  unfold barPay scat gat
  iintro ⟨⟨Hr, Hg, Q1, Q3⟩, T0, T1, T2, T3⟩
  isplitl [Hr Q1 T0 T1]
  · isplitl [Hr]; · iexact Hr
    isplitl [T0]; · iexact T0
    isplitl [T1]; · iexact T1
    iexact Q1
  isplitl [Hg]; · iexact Hg
  isplitl [T2]; · iexact T2
  isplitl [T3]; · iexact T3
  iexact Q3

theorem due_of (c : Dev nD) (a : Fin 4) (r : Fin 7) : iprop(owedBack c a r ∗ atPos ER (fCell c a r) 0 ∅ 0) ⊢ (due c a r : sProp 𝕄) := by
  unfold due; exact BIBase.Entails.rfl
/-- The scratch buffers, the barrier's place and the places of the waits put together again. -/
theorem whole_again (c : Dev nD) :
    iprop((hasAny c recvM 0 ∗ bigSep Finset.univ fun r => has c recvM (rs r) fullShare (got m c r)) ∗ (hasAny c partM c ∗ bigSep Finset.univ fun r => hasAny c partM (peer c r))
      ∗ has c gathM c (shareDrop fullShare 7) (red m c) ∗ (bigSep Finset.univ fun r : Fin 7 => has c gathM c (shareTok fullShare 7 r) (red m c))
      ∗ bigSep Finset.univ fun r => has c gathM (peer c (rev r)) fullShare (red m (peer c (rev r))))
      ⊢ iprop(some_ c partM ∗ some_ c recvM ∗ (some_ c gathM : sProp 𝕄)) := by
  iintro ⟨⟨R0, HR⟩, HP, Hg, HK, HG⟩
  isplitl [HP]
  · iapply (slots_whole c partM)
    iapply (Entails.of_eq (chainPeers c (fun j : Dev nD => (hasAny c partM j : sProp 𝕄))).symm); iexact HP
  isplitl [R0 HR]
  · iapply (slots_whole c recvM)
    iapply (Entails.of_eq (chainSlots (fun j => (hasAny c recvM j : sProp 𝕄))).symm)
    isplitl [R0]; · iexact R0
    iapply (mono7 (Φ := fun r => has c recvM (rs r) fullShare (got m c r)) (Ψ := fun r => hasAny c recvM (rs r)) (fun r => by
      show has c recvM (rs r) fullShare (got m c r) ⊢ hasAny c recvM (rs r)
      iintro H; iexists _; iexact H))
    iexact HR
  iexists gath m
  iapply (gath_join m c fullShare)
  isplitl [Hg HK]
  · iapply (regain c gathM c (red m c))
    isplitl [Hg]; · iexact Hg
    iexact HK
  iexact HG

section Body

variable (κ : GSem nD τ sig → ℕ) (c : Dev nD)
variable (arg0 : Memref sig .tc .vmem S256x512 .bf16) (harg0 : arg0.IsWhole) (arg1 : Memref sig .tc .vmem S512x256 .bf16) (harg1 : arg1.IsWhole)
variable (arg2 : Memref sig .tc .vmem S2x4x128x64 .bf16) (harg2 : arg2.IsWhole) (arg3 : Memref sig .tc .vmem S2x4x128x64 .bf16) (harg3 : arg3.IsWhole)
variable (arg4 : Memref sig .tc .vmem S256x512 .bf16) (harg4 : arg4.IsWhole) (arg5 : Memref sig .tc .vmem S8x32x512 .f32) (harg5 : arg5.IsWhole)
variable (h6 : ctxM.IsWhole) (h7 : partM.IsWhole) (h8 : recvM.IsWhole) (h9 : gathM.IsWhole)

/-- The kernel's body: from the operands and the device's share of the protocol it returns the operands, the result in its
    output buffer and every wait done. -/
theorem body_wp {Q : PUnit → sProp 𝕄} :
    env m κ c ⊢ iprop(before c -∗ owns (c : Thread nD τ) arg0 fullShare (xIn m c) -∗ owns (c : Thread nD τ) arg1 fullShare (wqIn m c)
      -∗ owns (c : Thread nD τ) arg2 fullShare (kIn m c) -∗ owns (c : Thread nD τ) arg3 fullShare (vIn m c) -∗ owns (c : Thread nD τ) arg4 fullShare (woIn m c)
      -∗ some_ c arg5
      -∗ (after c -∗ owns (c : Thread nD τ) arg0 fullShare (xIn m c) -∗ owns (c : Thread nD τ) arg1 fullShare (wqIn m c)
        -∗ owns (c : Thread nD τ) arg2 fullShare (kIn m c) -∗ owns (c : Thread nD τ) arg3 fullShare (vIn m c) -∗ owns (c : Thread nD τ) arg4 fullShare (woIn m c)
        -∗ owns (c : Thread nD τ) arg5 fullShare (outV m) -∗ Q ⟨⟩)
      -∗ wp frame (wpE (defs₀ (F := F)) 𝒱₀ (c : Thread nD τ) none) Set.univ (cc0_body (F := F) arg0 harg0 arg1 harg1 arg2 harg2 arg3 harg3 arg4 harg4 arg5 harg5 ctxM h6 partM h7 recvM h8 gathM h9 cc0_scratch4 cc0_scratch5 cc0_scratch6 cc0_scratch7) Q) := by
  rw [cc0_body_eq_skeleton]; unfold cc0_body_skel before
  simp only [wp_bind]
  iintro #HE ⟨Ho, Hc, Ha, Ht, HD, Hx, HP, Hr, Hg⟩ A0 A1 A2 A3 A4 A5 Hk
  icases (sig_split c) $$ [Ht Hr Hg] with ⟨HS, ⟨Hr, Hg⟩, Ht⟩
  · isplitl [Ht]; · iexact Ht
    isplitl [Hr]; · iexact Hr
    iexact Hg
  icases (Entails.of_eq (chain7 (sigR c))) $$ HS with ⟨H0, H1, H2, H3, H4, H5, H6⟩
  ihave HX := (tiles_any c) $$ Hx
  icases (Entails.of_eq (chainTiles (fun p => (anyTile c p.1 p.2 : sProp 𝕄)))) $$ HX with ⟨T00, T01, T02, T03, T10, T11, T12, T13⟩
  ihave HP := (slots_any c partM) $$ HP
  icases (Entails.of_eq (chainPeers c (fun j : Dev nD => (hasAny c partM j : sProp 𝕄)))) $$ HP with ⟨Hp, HP⟩
  icases (Entails.of_eq (chain7 (fun r => (hasAny c partM (peer c r) : sProp 𝕄)))) $$ HP with ⟨P0, P1, P2, P3, P4, P5, P6⟩
  icases (Entails.of_eq (chain7 (seats c))) $$ HD with ⟨Z0, Z1, Z2, Z3, Z4, Z5, Z6⟩
  unfold seats
  icases Z0 with ⟨D00, D10, D20, D30⟩
  icases Z1 with ⟨D01, D11, D21, D31⟩
  icases Z2 with ⟨D02, D12, D22, D32⟩
  icases Z3 with ⟨D03, D13, D23, D33⟩
  icases Z4 with ⟨D04, D14, D24, D34⟩
  icases Z5 with ⟨D05, D15, D25, D35⟩
  icases Z6 with ⟨D06, D16, D26, D36⟩
  iapply (part1_wp m κ c arg0 harg0 arg1 harg1 arg2 harg2 arg3 harg3 arg4 harg4 arg5 harg5 h6 h7 h8 h9 _) $$ HE Ho H0 H1 H2 H3 H4
  iintro %v2 %v24 Ho
  dsimp only
  iapply (part2_wp m κ c arg0 harg0 arg1 harg1 arg2 harg2 arg3 harg3 arg4 harg4 arg5 harg5 h6 h7 h8 h9 _ v2 v24 _) $$ HE Ho H5 H6 A0 A1 A2 A3
  iintro Ho A0 A1 A2 A3
  dsimp only
  iapply (part3_wp m c arg0 harg0 arg1 harg1 arg2 harg2 arg3 harg3 arg4 harg4 arg5 harg5 h6 h7 h8 h9 ) $$ A2 A3 T00 T01
  iintro A2 A3 T00 T01
  dsimp only
  iapply (part4_wp m c arg0 harg0 arg1 harg1 arg2 harg2 arg3 harg3 arg4 harg4 arg5 harg5 h6 h7 h8 h9 ) $$ A2 A3 T02 T03
  iintro A2 A3 T02 T03
  iapply (part5_wp m c arg0 harg0 arg1 harg1 arg2 harg2 arg3 harg3 arg4 harg4 arg5 harg5 h6 h7 h8 h9 ) $$ A2 A3 T10
  iintro A2 A3 T10
  iapply (part6_wp m c arg0 harg0 arg1 harg1 arg2 harg2 arg3 harg3 arg4 harg4 arg5 harg5 h6 h7 h8 h9 ) $$ A2 A3 T11 T12
  iintro A2 A3 T11 T12
  dsimp only
  iapply (part7_wp m κ c arg0 harg0 arg1 harg1 arg2 harg2 arg3 harg3 arg4 harg4 arg5 harg5 h6 h7 h8 h9 v2) $$ HE Ho A3 A4 T00 T01 T02 T03 T10 T11 T12 T13 Hc Ha P0
  iintro %v210 Ho A3 A4 Ha Hb Hx P0
  dsimp only
  icases (copies_split c) $$ [Hb Ht] with ⟨HS, HG⟩
  · isplitl [Hb]; · iexact Hb
    iexact Ht
  icases (Entails.of_eq (chain7 (scat c))) $$ HS with ⟨S0, S1, S2, S3, S4, S5, S6⟩
  icases (Entails.of_eq (chain7 (gat c))) $$ HG with ⟨G0, G1, G2, G3, G4, G5, G6⟩
  iapply (part8_wp m κ c arg0 harg0 arg1 harg1 arg2 harg2 arg3 harg3 arg4 harg4 arg5 harg5 h6 h7 h8 h9 _ v2) $$ HE Ho P0 S0 Hx P1 S1
  iintro %v231 %v252 Ho Hx C00 C01
  dsimp only
  iapply (part9_wp m κ c arg0 harg0 arg1 harg1 arg2 harg2 arg3 harg3 arg4 harg4 arg5 harg5 h6 h7 h8 h9 _ v2 v252) $$ HE Ho P2 S2 Hx P3
  iintro %v273 Ho Hx C02 P3
  iapply (part10_wp m κ c arg0 harg0 arg1 harg1 arg2 harg2 arg3 harg3 arg4 harg4 arg5 harg5 h6 h7 h8 h9 _ v2) $$ HE Ho P3 S3 Hx P4 S4 P5
  iintro %v294 %v315 Ho Hx C03 C04 P5
  dsimp only
  iapply (part11_wp m κ c arg0 harg0 arg1 harg1 arg2 harg2 arg3 harg3 arg4 harg4 arg5 harg5 h6 h7 h8 h9 _ v2 v315) $$ HE Ho P5 S5 Hx P6 S6
  iintro %v336 %v356 Ho Hx C05 C06
  dsimp only
  iapply (part12_wp m κ c arg0 harg0 arg1 harg1 arg2 harg2 arg3 harg3 arg4 harg4 arg5 harg5 h6 h7 h8 h9 v210 v231 v252 v356) $$ HE Ho Hx D10 D11
  iintro Ho Hx D10 R0 D11 R1
  iapply (part13_wp m κ c arg0 harg0 arg1 harg1 arg2 harg2 arg3 harg3 arg4 harg4 arg5 harg5 h6 h7 h8 h9 v273 v294) $$ HE Ho D12 D13 D14
  iintro Ho D12 R2 D13 R3 D14 R4
  dsimp only
  iapply (part14_wp m κ c arg0 harg0 arg1 harg1 arg2 harg2 arg3 harg3 arg4 harg4 arg5 harg5 h6 h7 h8 h9 v2 v315 v336) $$ HE Ho D15 D16 Hg
  iintro %v438 Ho D15 R5 D16 R6 Hg
  icases (lend c gathM c (red m c)) $$ Hg with ⟨Hg, HK⟩
  icases (Entails.of_eq (chain7 (fun r => has c gathM c (shareTok fullShare 7 r) (red m c)))) $$ HK with ⟨K0, K1, K2, K3, K4, K5, K6⟩
  iapply (part15_wp m κ c arg0 harg0 arg1 harg1 arg2 harg2 arg3 harg3 arg4 harg4 arg5 harg5 h6 h7 h8 h9 _ v2 v438) $$ HE Ho K0 G0 K1 G1 K2 G2
  iintro %v448 %v458 Ho C20 C21 C22
  dsimp only
  iapply (part16_wp m κ c arg0 harg0 arg1 harg1 arg2 harg2 arg3 harg3 arg4 harg4 arg5 harg5 h6 h7 h8 h9 _ v2 _) $$ HE Ho K3 G3 K4 G4
  iintro %v468 %v478 %v488 Ho C23 C24
  dsimp only
  iapply (part17_wp m κ c arg0 harg0 arg1 harg1 arg2 harg2 arg3 harg3 arg4 harg4 arg5 harg5 h6 h7 h8 h9 v2 v438 v448 v458) $$ HE Ho K5 G5 K6 G6 D30 D31
  iintro %v498 Ho C25 C26 D30 G0 D31 G1
  iapply (part18_wp m κ c arg0 harg0 arg1 harg1 arg2 harg2 arg3 harg3 arg4 harg4 arg5 harg5 h6 h7 h8 h9 v468 v478 v488 v498) $$ HE Ho D32 D33 D34 D35
  iintro Ho D32 G2 D33 G3 D34 G4 D35 G5
  ihave D00 := (due_of c 0 0) $$ [C00 D00]
  · isplitl [C00]; · iexact C00
    iexact D00
  ihave D01 := (due_of c 0 1) $$ [C01 D01]
  · isplitl [C01]; · iexact C01
    iexact D01
  ihave D02 := (due_of c 0 2) $$ [C02 D02]
  · isplitl [C02]; · iexact C02
    iexact D02
  ihave D03 := (due_of c 0 3) $$ [C03 D03]
  · isplitl [C03]; · iexact C03
    iexact D03
  ihave D04 := (due_of c 0 4) $$ [C04 D04]
  · isplitl [C04]; · iexact C04
    iexact D04
  ihave D05 := (due_of c 0 5) $$ [C05 D05]
  · isplitl [C05]; · iexact C05
    iexact D05
  ihave D06 := (due_of c 0 6) $$ [C06 D06]
  · isplitl [C06]; · iexact C06
    iexact D06
  ihave D20 := (due_of c 2 0) $$ [C20 D20]
  · isplitl [C20]; · iexact C20
    iexact D20
  ihave D21 := (due_of c 2 1) $$ [C21 D21]
  · isplitl [C21]; · iexact C21
    iexact D21
  ihave D22 := (due_of c 2 2) $$ [C22 D22]
  · isplitl [C22]; · iexact C22
    iexact D22
  ihave D23 := (due_of c 2 3) $$ [C23 D23]
  · isplitl [C23]; · iexact C23
    iexact D23
  ihave D24 := (due_of c 2 4) $$ [C24 D24]
  · isplitl [C24]; · iexact C24
    iexact D24
  ihave D25 := (due_of c 2 5) $$ [C25 D25]
  · isplitl [C25]; · iexact C25
    iexact D25
  ihave D26 := (due_of c 2 6) $$ [C26 D26]
  · isplitl [C26]; · iexact C26
    iexact D26
  iapply (part19_wp m κ c arg0 harg0 arg1 harg1 arg2 harg2 arg3 harg3 arg4 harg4 arg5 harg5 h6 h7 h8 h9 ) $$ HE Ho D36 Hg G0 G1 G2 G3 G4 G5 A5 D00 D01 D02
  iintro Ho D36 Hg G0 G1 G2 G3 G4 G5 G6 A5 D00 P0 D01 P1 D02 P2
  iapply (part20_wp m κ c arg0 harg0 arg1 harg1 arg2 harg2 arg3 harg3 arg4 harg4 arg5 harg5 h6 h7 h8 h9 ) $$ HE Ho D03 D04 D05 D06
  iintro Ho D03 P3 D04 P4 D05 P5 D06 P6
  iapply (part21_wp m κ c arg0 harg0 arg1 harg1 arg2 harg2 arg3 harg3 arg4 harg4 arg5 harg5 h6 h7 h8 h9 ) $$ HE Ho D20 D21 D22 D23 D24
  iintro Ho D20 K0 D21 K1 D22 K2 D23 K3 D24 K4
  simp only [Prog.lift, Prog.bind_op, Prog.bind_ret, Prog.pure_eq_ret]
  iapply (wait_back m κ c 5 rfl) $$ HE Ho D25; iintro ⟨Ho, D25, K5⟩
  rw [wp_ret]
  imodintro
  iapply (wait_back m κ c 6 rfl) $$ HE Ho D26; iintro ⟨Ho, D26, K6⟩
  rw [wp_ret]
  imodintro
  rw [wp_ret]
  imodintro
  iapply Hk $$ [Ho Ha D00 D01 D02 D03 D04 D05 D06 D10 D11 D12 D13 D14 D15 D16 D20 D21 D22 D23 D24 D25 D26 D30 D31 D32 D33 D34 D35 D36 Hx P0 P1 P2 P3 P4 P5 P6 R0 R1 R2 R3 R4 R5 R6 K0 K1 K2 K3 K4 K5 K6 G0 G1 G2 G3 G4 G5 G6 Hr Hp Hg] A0 A1 A2 A3 A4 A5
  unfold after
  isplitl [Ho]; · iexact Ho
  isplitl [Ha]; · iexact Ha
  isplitl [D00 D01 D02 D03 D04 D05 D06 D10 D11 D12 D13 D14 D15 D16 D20 D21 D22 D23 D24 D25 D26 D30 D31 D32 D33 D34 D35 D36]
  · iapply (Entails.of_eq (chain7 (seatsDone c)).symm)
    unfold seatsDone
    isplitl [D00 D10 D20 D30]
    · isplitl [D00]; · iexact D00
      isplitl [D10]; · iexact D10
      isplitl [D20]; · iexact D20
      iexact D30
    isplitl [D01 D11 D21 D31]
    · isplitl [D01]; · iexact D01
      isplitl [D11]; · iexact D11
      isplitl [D21]; · iexact D21
      iexact D31
    isplitl [D02 D12 D22 D32]
    · isplitl [D02]; · iexact D02
      isplitl [D12]; · iexact D12
      isplitl [D22]; · iexact D22
      iexact D32
    isplitl [D03 D13 D23 D33]
    · isplitl [D03]; · iexact D03
      isplitl [D13]; · iexact D13
      isplitl [D23]; · iexact D23
      iexact D33
    isplitl [D04 D14 D24 D34]
    · isplitl [D04]; · iexact D04
      isplitl [D14]; · iexact D14
      isplitl [D24]; · iexact D24
      iexact D34
    isplitl [D05 D15 D25 D35]
    · isplitl [D05]; · iexact D05
      isplitl [D15]; · iexact D15
      isplitl [D25]; · iexact D25
      iexact D35
    isplitl [D06]; · iexact D06
    isplitl [D16]; · iexact D16
    isplitl [D26]; · iexact D26
    iexact D36
  isplitl [Hx]; · iexists _; iexact Hx
  iapply (whole_again m c)
  isplitl [Hr R0 R1 R2 R3 R4 R5 R6]
  · isplitl [Hr]; · iexact Hr
    iapply (Entails.of_eq (chain7 (fun r => has c recvM (rs r) fullShare (got m c r))).symm)
    isplitl [R0]; · iexact R0
    isplitl [R1]; · iexact R1
    isplitl [R2]; · iexact R2
    isplitl [R3]; · iexact R3
    isplitl [R4]; · iexact R4
    isplitl [R5]; · iexact R5
    iexact R6
  isplitl [Hp P0 P1 P2 P3 P4 P5 P6]
  · isplitl [Hp]; · iexact Hp
    iapply (Entails.of_eq (chain7 (fun r => (hasAny c partM (peer c r) : sProp 𝕄))).symm)
    isplitl [P0]; · iexact P0
    isplitl [P1]; · iexact P1
    isplitl [P2]; · iexact P2
    isplitl [P3]; · iexact P3
    isplitl [P4]; · iexact P4
    isplitl [P5]; · iexact P5
    iexact P6
  isplitl [Hg]; · iexact Hg
  isplitl [K0 K1 K2 K3 K4 K5 K6]
  · iapply (Entails.of_eq (chain7 (fun r => has c gathM c (shareTok fullShare 7 r) (red m c))).symm)
    isplitl [K0]; · iexact K0
    isplitl [K1]; · iexact K1
    isplitl [K2]; · iexact K2
    isplitl [K3]; · iexact K3
    isplitl [K4]; · iexact K4
    isplitl [K5]; · iexact K5
    iexact K6
  iapply (Entails.of_eq (chain7 (fun r => has c gathM (peer c (rev r)) fullShare (red m (peer c (rev r))))).symm)
  isplitl [G0]; · iexact G0
  isplitl [G1]; · iexact G1
  isplitl [G2]; · iexact G2
  isplitl [G3]; · iexact G3
  isplitl [G4]; · iexact G4
  isplitl [G5]; · iexact G5
  iexact G6

end Body

end Cert.KernelIdeal.Run

end
-- ==== Proof.Region.lean ====
/- The kernel as a region of the program: the proof data of its one point, and how a device enters and leaves it. -/
module

public import proofs.«01_k».proof.Proof.Body
public import Idealize.ShloMosaic.Lib.Pipeline.ValueKit.Geometry

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Idealize.ShloMosaic.ValueIdx (ix2 ix3)
open Idealize.ShloMosaic.Transfers (shareTok shareDrop)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The kernel's own semaphores -/

/-- The 32 transfer semaphores of the kernel: four families of eight. -/
abbrev osem0 (k : Fin 32) : SemLoc sig := .dma ⟨6 + k.val, by show _ < 38; omega⟩

/-- The counters of the first semaphore of each family, which the kernel never uses. -/
def idle (c : Dev nD) : sProp 𝕄 :=
  bigSep Finset.univ fun a : Fin 4 => semVal ((c : Thread nD τ), osem0 (finProdFinEquiv (a, (0 : Fin 8)))) 0
/-- The counters of the semaphores the schedule uses. -/
def fams (c : Dev nD) : sProp 𝕄 := bigSep Finset.univ fun p : Fin 4 × Fin 7 => semVal (fCell c p.1 p.2) 0

theorem osem0_fam (a : Fin 4) (r : Fin 7) : osem0 (finProdFinEquiv (a, rs r)) = .dma (fsem a r) := by revert a r; decide

omit [FloatOps F] in
/-- The kernel's counters are the unused ones and the schedule's. -/
theorem ownSems0_eq (c : Dev nD) : (Pipeline.ownSems0 osem0 c : sProp 𝕄) = iprop(idle c ∗ fams c) := by
  unfold Pipeline.ownSems0 idle fams
  rw [bigSep_univ_equiv (finProdFinEquiv : Fin 4 × Fin 8 ≃ Fin 32) (fun k : Fin 32 => (semVal ((c : Thread nD τ), osem0 k) 0 : sProp 𝕄)),
    bigSep_univ_prod, bigSep_univ_prod, ← bigSep_sep']
  refine bigSep_congr fun a _ => ?_
  refine (chainSlots (fun j : Fin 8 => (semVal ((c : Thread nD τ), osem0 (finProdFinEquiv (a, j))) 0 : sProp 𝕄))).trans ?_
  refine congrArg (fun X : sProp 𝕄 => iprop(semVal ((c : Thread nD τ), osem0 (finProdFinEquiv (a, (0 : Fin 8)))) 0 ∗ X)) ?_
  exact bigSep_congr fun r _ => by rw [osem0_fam]

omit [FloatOps F] in
theorem chain4 (Φ : Fin 4 → sProp (MT nD τ sig Unit (Elt F) ℕ UU ℕ)) : bigSep Finset.univ Φ = iprop(Φ 0 ∗ Φ 1 ∗ Φ 2 ∗ Φ 3) :=
  bigSep_univ_eq_bigSepL [0, 1, 2, 3] (by decide) (by decide) Φ

omit [FloatOps F] in
/-- Over the four families and the seven indices: the four families side by side at each index. -/
theorem famGrid (Φ : Fin 4 → Fin 7 → sProp (MT nD τ sig Unit (Elt F) ℕ UU ℕ)) :
    (bigSep Finset.univ fun p : Fin 4 × Fin 7 => Φ p.1 p.2) = bigSep Finset.univ fun r => iprop(Φ 0 r ∗ Φ 1 r ∗ Φ 2 r ∗ Φ 3 r) := by
  rw [bigSep_univ_prod, chain4, bigSep_sep', bigSep_sep', bigSep_sep']

/-! ## Opening and closing the cells -/

/-- The rights to open a device's cells. -/
def rights (c : Dev nD) : sProp 𝕄 := bigSep Finset.univ fun p : Fin 4 × Fin 7 => openTok ER (fCell c p.1 p.2)
/-- The places of a device's waits, before any. -/
def places (c : Dev nD) : sProp 𝕄 := bigSep Finset.univ fun p : Fin 4 × Fin 7 => atPos ER (fCell c p.1 p.2) 0 ∅ 0

theorem open_one (κ : GSem nD τ sig → ℕ) (c : Dev nD) (p : Fin 4 × Fin 7) :
    iprop(records m κ ∗ openTok ER (fCell c p.1 p.2) ∗ semVal (fCell c p.1 p.2) 0)
      ⊢ |={Set.univ}=> iprop(atPos ER (fCell c p.1 p.2) 0 ∅ 0 ∗ (reached ER (fCell c p.1 p.2) 0 : sProp 𝕄)) := by
  iintro ⟨#HR, Ho, Hs⟩
  ihave #HI := (records_fam m κ c p.1 p.2) $$ HR
  imod (Rounds.cell_open ER (Rd m) (g := fCell c p.1 p.2) (Set.mem_univ (κ (fCell c p.1 p.2)))) $$ [Ho Hs] with ⟨Hat, #Hr⟩
  · isplitr; · iexact HI
    isplitl [Ho] <;> iassumption
  imodintro
  isplitl [Hat]; · iexact Hat
  iexact Hr

/-- Every cell of a device opened: the places of its waits, and each cell at its first round. -/
theorem open_all (κ : GSem nD τ sig → ℕ) (c : Dev nD) :
    iprop(records m κ ∗ rights c ∗ fams c) ⊢ |={Set.univ}=> iprop(places c ∗ (openedAll c : sProp 𝕄)) := by
  unfold rights fams places openedAll
  rw [← bigSep_sep', ← bigSep_sep']
  iintro ⟨#HR, H⟩
  ihave H := (bigSep_with_persistent (R := records m κ) (S := Finset.univ)
    (Φ := fun p : Fin 4 × Fin 7 => iprop(openTok ER (fCell c p.1 p.2) ∗ semVal (fCell c p.1 p.2) 0))
    (Ψ := fun p : Fin 4 × Fin 7 => iprop(|={Set.univ}=> iprop(atPos ER (fCell c p.1 p.2) 0 ∅ 0 ∗ (reached ER (fCell c p.1 p.2) 0 : sProp 𝕄))))
    fun p _ => open_one m κ c p) $$ [H]
  · isplitr; · iexact HR
    iexact H
  iapply (bigSep_fupd _ _); iexact H

theorem close_one (κ : GSem nD τ sig → ℕ) (c : Dev nD) (a : Fin 4) (r : Fin 7) :
    iprop(records m κ ∗ done c a r) ⊢ (|={Set.univ}=> semVal (fCell c a r) 0 : sProp 𝕄) := by
  unfold done
  iintro ⟨#HR, H⟩
  ihave #HI := (records_fam m κ c a r) $$ HR
  iapply (Rounds.cell_close ER (Rd m) (Set.mem_univ (κ (fCell c a r))) id (duties_later m (fCell c a r)))
  isplitr; · iexact HI
  iexact H

/-- Every cell of a device closed: each counter back at zero. -/
theorem close_all (κ : GSem nD τ sig → ℕ) (c : Dev nD) :
    iprop(records m κ ∗ bigSep Finset.univ (seatsDone c)) ⊢ (|={Set.univ}=> fams c : sProp 𝕄) := by
  unfold fams seatsDone
  rw [← famGrid (fun a r => (done c a r : sProp 𝕄))]
  iintro ⟨#HR, H⟩
  ihave H := (bigSep_with_persistent (R := records m κ) (S := Finset.univ)
    (Φ := fun p : Fin 4 × Fin 7 => (done c p.1 p.2 : sProp 𝕄))
    (Ψ := fun p : Fin 4 × Fin 7 => iprop(|={Set.univ}=> (semVal (fCell c p.1 p.2) 0 : sProp 𝕄)))
    fun p _ => close_one m κ c p.1 p.2) $$ [H]
  · isplitr; · iexact HR
    iexact H
  iapply (bigSep_fupd _ _); iexact H

theorem close_bar (κ : GSem nD τ sig → ℕ) (c : Dev nD) :
    iprop(records m κ ∗ atPos ER (barCell c) (0 + 1) ∅ 0) ⊢ (|={Set.univ}=> semVal (barCell c) 0 : sProp 𝕄) := by
  iintro ⟨#HR, H⟩
  ihave #HI := (records_bar m κ c) $$ HR
  iapply (Rounds.cell_close ER (Rd m) (Set.mem_univ (κ (barCell c))) id (duties_later m (barCell c)))
  isplitr; · iexact HI
  iexact H

/-! ## The proof data of the kernel's one point -/

/-- What the launch gives a device for the kernel: the records, its barrier's place, the rights to open its cells, the tokens of what
    it pays and the credits of what it waits for. -/
def Tk (c : Dev nD) : sProp 𝕄 :=
  iprop((∃ κ, records m κ) ∗ atPos ER (barCell c) 0 ∅ 0 ∗ rights c ∗ bigSep Finset.univ (toks c)
    ∗ cred (tallyAt (barCell c) () 7) ∗ (bigSep Finset.univ fun r => cred (tallyAt (fCell c 1 r) () N)) ∗ bigSep Finset.univ fun r => cred (tallyAt (fCell c 3 r) () N))
/-- The same once the cells are open. -/
def Xk (c : Dev nD) : sProp 𝕄 :=
  iprop((∃ κ, env m κ c) ∗ idle c ∗ atPos ER (barCell c) 0 ∅ 0 ∗ bigSep Finset.univ (toks c) ∗ bigSep Finset.univ (seats c) ∗ cred (tallyAt (barCell c) () 7))
/-- What is left at the end. -/
def Yk (c : Dev nD) : sProp 𝕄 := semVal (barCell c) 0

omit [FloatOps F] in
/-- The seats, out of the places and the credits. -/
theorem seats_of (c : Dev nD) :
    iprop(places c ∗ (bigSep Finset.univ fun r => cred (tallyAt (fCell c 1 r) () N)) ∗ bigSep Finset.univ fun r => cred (tallyAt (fCell c 3 r) () N))
      ⊢ (bigSep Finset.univ (seats c) : sProp 𝕄) := by
  unfold places
  rw [famGrid (fun a r => (atPos ER (fCell c a r) 0 ∅ 0 : sProp 𝕄)), ← bigSep_sep', ← bigSep_sep']
  refine mono7 fun r => ?_
  unfold seats due
  iintro ⟨⟨H0, H1, H2, H3⟩, C1, C3⟩
  isplitl [H0]; · iexact H0
  isplitl [C1 H1]
  · isplitl [C1] <;> iassumption
  isplitl [H2]; · iexact H2
  isplitl [C3] <;> iassumption

/-- At the region's entry the cells are opened. -/
theorem hopen0 (c : Dev nD) : iprop(Tk m c ∗ Pipeline.ownSems0 osem0 c ∗ levAts L lv) ⊢ (|={Set.univ}=> Xk m c : sProp 𝕄) := by
  rw [ownSems0_eq]
  unfold Tk Xk
  iintro ⟨⟨⟨%κ, #HR⟩, HB, Ho, HT, C, C1, C3⟩, ⟨Hi, Hf⟩, #HL⟩
  imod (open_all m κ c) $$ [Ho Hf] with ⟨Hp, #Hr⟩
  · isplitr; · iexact HR
    isplitl [Ho] <;> iassumption
  imodintro
  isplitr
  · iexists κ; unfold env
    isplitr; · iexact HR
    isplitr; · iexact HL
    iexact Hr
  isplitl [Hi]; · iexact Hi
  isplitl [HB]; · iexact HB
  isplitl [HT]; · iexact HT
  isplitl [Hp C1 C3]
  · iapply (seats_of c)
    isplitl [Hp]; · iexact Hp
    isplitl [C1] <;> iassumption
  iexact C

/-- The kernel's proof data: its operands as the host operations left them, the result block, what rides along. -/
def dat0 (c : Dev nD) : Dat τ (Elt F) Unit ℕ UU ℕ cfg0 c where
  A w := V1 m c (Proc.devRef .tc (Pipeline.arrRef spec0 w))
  after w _ := match w with
    | 0 => xIn m c
    | 1 => wqIn m c
    | 2 => kIn m c
    | 3 => vIn m c
    | 4 => woIn m c
    | 5 => outV m
    | ⟨_ + 6, h⟩ => absurd h (Nat.not_lt.2 (Nat.le_add_left _ _))
  Φ t := if t.val = 0 then iprop(Xk m c ∗ Pipeline.scopedRest spec0 c ∗ ∃ r, prngReg c r)
    else iprop(Yk c ∗ (idle c ∗ fams c) ∗ Pipeline.scopedRest spec0 c ∗ ∃ r, prngReg c r)
  q _ := fullShare
  owed t := if t.val = 0 then O₀ c else 0

def pdats : (p : Fin 1) → (c : Dev nD) → Dat τ (Elt F) Unit ℕ UU ℕ (cfgs p) c
  | 0 => dat0 m

theorem owed_first (c : Dev nD) : (dat0 m c).owed t0_0.castSucc = O₀ c := by
  show (if (t0_0.castSucc : Fin (cfg0.N + 1)).val = 0 then O₀ c else 0) = O₀ c; exact if_pos rfl
theorem owed_zero (c : Dev nD) : (pdats m 0 c).owed 0 = O₀ c := by
  show (if (0 : Fin (cfg0.N + 1)).val = 0 then O₀ c else 0) = O₀ c; exact if_pos rfl
theorem owed_last (c : Dev nD) : (pdats m 0 c).owed (Fin.last _) = 0 := by
  show (if (Fin.last cfg0.N).val = 0 then O₀ c else 0) = 0
  rw [Fin.val_last, if_neg (by rw [show cfg0.N = 1 from N_0]; decide)]

/-- What the core owes, as the region keeps it. -/
theorem owesAt_of (c : Dev nD) (t : Fin (cfg0.N + 1)) (O : CellTallies nD τ sig Unit) (h : (dat0 m c).owed t = O) :
    owesAny c O ⊢ ((dat0 m c).owesAt () t : sProp 𝕄) := by
  unfold Dat.owesAt Pipeline.owesWithin Dat.bound
  rw [h, show (dat0 m c).recorded t = Set.univ from rfl]
  iintro ⟨%W, HO⟩
  iexists W
  isplitr; · ipureintro; exact fun _ _ => Or.inl trivial
  iexact HO
theorem of_owesAt (c : Dev nD) (t : Fin (cfg0.N + 1)) (O : CellTallies nD τ sig Unit) (h : (dat0 m c).owed t = O) :
    ((dat0 m c).owesAt () t : sProp 𝕄) ⊢ owesAny c O := by
  unfold Dat.owesAt Pipeline.owesWithin
  rw [h]
  iintro ⟨%W, -, HO⟩
  iexists W; iexact HO

omit [FloatOps F] in
/-- The scratch buffers, each at some contents. -/
theorem scratch_eq (c : Dev nD) : (Pipeline.scopedRest spec0 c : sProp 𝕄) ⊢ iprop(some_ c ctxM ∗ some_ c partM ∗ some_ c recvM ∗ (some_ c gathM : sProp 𝕄)) := by
  rw [scopedRest0_eq]
  unfold ctxM partM recvM gathM some_
  simp only [owns_whole_eq]
  iintro ⟨⟨%f0, H0⟩, ⟨%f1, H1⟩, ⟨%f2, H2⟩, ⟨%f3, H3⟩⟩
  isplitl [H0]
  · iexists f0, f0; isplitr; · ipureintro; rfl
    iexact H0
  isplitl [H1]
  · iexists f1, f1; isplitr; · ipureintro; rfl
    iexact H1
  isplitl [H2]
  · iexists f2, f2; isplitr; · ipureintro; rfl
    iexact H2
  iexists f3, f3; isplitr; · ipureintro; rfl
  iexact H3
omit [FloatOps F] in
theorem scratch_of (c : Dev nD) : iprop(some_ c ctxM ∗ some_ c partM ∗ some_ c recvM ∗ (some_ c gathM : sProp 𝕄)) ⊢ (Pipeline.scopedRest spec0 c : sProp 𝕄) := by
  rw [scopedRest0_eq]
  unfold ctxM partM recvM gathM some_
  simp only [owns_whole_eq]
  iintro ⟨⟨%f0, %g0, -, H0⟩, ⟨%f1, %g1, -, H1⟩, ⟨%f2, %g2, -, H2⟩, ⟨%f3, %g3, -, H3⟩⟩
  isplitl [H0]; · iexists g0; iexact H0
  isplitl [H1]; · iexists g1; iexact H1
  isplitl [H2]; · iexists g2; iexact H2
  iexists g3; iexact H3

/-- What a point finds in a fetched window of a whole array, element by element: the array there. -/
theorem fetched_at (c : Dev nD) (w : Fin 6) (t : Fin cfg0.N) (d) (j : (cfg0.win w).block.Idx)
    (hf : (cfg0.win w).fetch t = true) (hm : (cfg0.win w).moved (cfg0.grid.coords t) j = true) :
    (dat0 m c).before w t d j = (dat0 m c).blockOf w t fun a => ⟨(j a).val, ((cfg0.win w).moved_iff _ j).mp hm a⟩ := by
  unfold Dat.before; rw [if_pos hf]
  unfold Dat.fetched Pipeline.Window.fill
  rw [dif_pos hm]

theorem before_0 (c : Dev nD) (t : Fin cfg0.N) (d) : (dat0 m c).before 0 t d = xIn m c := by
  funext j
  refine (fetched_at m c 0 t d j (fetch0_0 t) (((cfg0.win 0).moved_iff _ j).mpr fun a => (j a).isLt)).trans ?_
  refine congrArg (V1 m c main_v17) (funext fun a => Fin.ext ?_)
  show 0 * S256x512.size a + 1 * (j a).val = (j a).val
  omega
theorem before_1 (c : Dev nD) (t : Fin cfg0.N) (d) : (dat0 m c).before 1 t d = wqIn m c := by
  funext j
  refine (fetched_at m c 1 t d j (fetch0_1 t) (((cfg0.win 1).moved_iff _ j).mpr fun a => (j a).isLt)).trans ?_
  refine congrArg (V1 m c main_arg1) (funext fun a => Fin.ext ?_)
  show 0 * S512x256.size a + 1 * (j a).val = (j a).val
  omega
theorem before_2 (c : Dev nD) (t : Fin cfg0.N) (d) : (dat0 m c).before 2 t d = kIn m c := by
  funext j
  refine (fetched_at m c 2 t d j (fetch0_2 t) (((cfg0.win 2).moved_iff _ j).mpr fun a => (j a).isLt)).trans ?_
  refine congrArg (V1 m c main_v15) (funext fun a => Fin.ext ?_)
  show 0 * S2x4x128x64.size a + 1 * (j a).val = (j a).val
  omega
theorem before_3 (c : Dev nD) (t : Fin cfg0.N) (d) : (dat0 m c).before 3 t d = vIn m c := by
  funext j
  refine (fetched_at m c 3 t d j (fetch0_3 t) (((cfg0.win 3).moved_iff _ j).mpr fun a => (j a).isLt)).trans ?_
  refine congrArg (V1 m c main_v16) (funext fun a => Fin.ext ?_)
  show 0 * S2x4x128x64.size a + 1 * (j a).val = (j a).val
  omega
theorem before_4 (c : Dev nD) (t : Fin cfg0.N) (d) : (dat0 m c).before 4 t d = woIn m c := by
  funext j
  refine (fetched_at m c 4 t d j (fetch0_4 t) (((cfg0.win 4).moved_iff _ j).mpr fun a => (j a).isLt)).trans ?_
  refine congrArg (V1 m c main_arg4) (funext fun a => Fin.ext ?_)
  show 0 * S256x512.size a + 1 * (j a).val = (j a).val
  omega

/-- The kernel's body meets what the region asks of its one point. -/
theorem body0 (c : Dev nD) : BodyObligation (dat0 m c) defs₀ 𝒱₀ () Set.univ := fun t => by
  obtain rfl := fin_N0 t
  rw [bigSep_W0, bigSep_W0]
  rw [show (dat0 m c).Φ t0_0.castSucc = iprop(Xk m c ∗ Pipeline.scopedRest spec0 c ∗ ∃ r, prngReg c r) from rfl,
    show (dat0 m c).Φ t0_0.succ = iprop(Yk c ∗ (idle c ∗ fams c) ∗ Pipeline.scopedRest spec0 c ∗ ∃ r, prngReg c r) from rfl]
  dsimp only
  unfold Xk Yk
  iintro ⟨⟨⟨⟨%κ, #HE⟩, Hi, HB, HT, HS, C⟩, Hscr, Hp⟩, HO, ⟨%d0, A0⟩, ⟨%d1, A1⟩, ⟨%d2, A2⟩, ⟨%d3, A3⟩, ⟨%d4, A4⟩, ⟨%d5, A5⟩⟩
  ihave HO := (of_owesAt m c _ (O₀ c) (owed_first m c)) $$ HO
  ihave ⟨S0, S1, S2, S3⟩ := (scratch_eq c) $$ Hscr
  rw [before_0, before_1, before_2, before_3, before_4]
  iapply (wp_fupd _ _)
  iapply (body_wp m κ c _ _ _ _ _ _ _ _ _ _ _ _ _ _ _ _) $$ HE [HO C HB HT HS S0 S1 S2 S3] A0 A1 A2 A3 A4 [A5]
  · unfold before
    isplitl [HO]; · iexact HO
    isplitl [C]; · iexact C
    isplitl [HB]; · iexact HB
    isplitl [HT]; · iexact HT
    isplitl [HS]; · iexact HS
    isplitl [S0]; · iexact S0
    isplitl [S1]; · iexact S1
    isplitl [S2]; · iexact S2
    iexact S3
  · iexists _; iexact A5
  iintro Ha A0 A1 A2 A3 A4 A5
  unfold after
  icases Ha with ⟨HO, HB, HS, Hscr⟩
  unfold env
  icases HE with ⟨#HR, -, -⟩
  imod (close_all m κ c) $$ [HS] with Hf
  · isplitr; · iexact HR
    iexact HS
  imod (close_bar m κ c) $$ [HB] with Hb
  · isplitr; · iexact HR
    iexact HB
  imodintro
  isplitl [Hi Hf Hb Hscr Hp]
  · isplitl [Hb]; · iexact Hb
    isplitl [Hi Hf]
    · isplitl [Hi]; · iexact Hi
      iexact Hf
    isplitl [Hscr]; · iapply (scratch_of c); iexact Hscr
    iexact Hp
  isplitl [HO]; · iapply (owesAt_of m c _ 0 (owed_last m c)); iexact HO
  isplitl [A0]; · iexact A0
  isplitl [A1]; · iexact A1
  isplitl [A2]; · iexact A2
  isplitl [A3]; · iexact A3
  isplitl [A4]; · iexact A4
  iexact A5

/-! ## The region -/

/-- What the region leaves in the arrays it may change: the result block on every device. -/
def outs : Outs (F := F) := fun _ r c => Function.update (V1 m c) (Proc.devRef .tc main_v18) (outV m) (Proc.devRef .tc r)
theorem outs_at (c : Dev nD) : outs m 2 main_v18 c = outV m := by unfold outs; exact Function.update_self ..
theorem V2_result (c : Dev nD) : V2 m (outs m) c main_v18 = outV m := by
  show Function.update (V1 m c) (Proc.devRef .tc main_v18) (outs m 2 main_v18 c) (Proc.devRef .tc main_v18) = _
  rw [Function.update_self]; exact outs_at m c

/-- The result array ends at the result block. -/
theorem result_end (c : Dev nD) : (dat0 m c).arrAt 5 cfg0.N = outV m :=
  (dat0 m c).arrAt_eq_of_after_last 5 t0_0 (by decide +kernel) (outV m) (fun _ => rfl)

/-- Every window's array ends as the valuation after the region has it. -/
theorem arrays_end (c : Dev nD) (w : Fin 6) : (dat0 m c).arrAt w cfg0.N = V2 m (outs m) c (Proc.devRef .tc (Pipeline.arrRef spec0 w)) := by
  have hin (w : Fin 6) (hw : (cfg0.win w).isOut = false) (hr : Pipeline.arrRef spec0 w ∉ ([main_v18] : List (Ref sig .tc))) :
      (dat0 m c).arrAt w cfg0.N = V2 m (outs m) c (Proc.devRef .tc (Pipeline.arrRef spec0 w)) :=
    ((dat0 m c).arrAt_in w hw _).trans (V2_of m (outs m) c _ hr).symm
  match w with
  | 0 => exact hin 0 rfl (by decide)
  | 1 => exact hin 1 rfl (by decide)
  | 2 => exact hin 2 rfl (by decide)
  | 3 => exact hin 3 rfl (by decide)
  | 4 => exact hin 4 rfl (by decide)
  | 5 => exact (result_end m c).trans (V2_result m c).symm

omit [FloatOps F] in
theorem held_none (c : Dev nD) (W : Valuation τ sig (Elt F)) : (StableHlo.held (c.tc : Thread nD τ) ∅ W : sProp 𝕄) = BI.emp := by
  unfold StableHlo.held; exact BI.bigSep_empty

theorem hin0 (c : Dev nD) : iprop(Pipeline.scopedRest spec0 c ∗ (∃ r, prngReg c r) ∗ StableHlo.held (c.tc : Thread nD τ) ∅ (V1 m c) ∗ Xk m c)
    ⊢ (dat0 m c).Φ 0 := by
  rw [show (dat0 m c).Φ 0 = iprop(Xk m c ∗ Pipeline.scopedRest spec0 c ∗ ∃ r, prngReg c r) from rfl]
  iintro ⟨Hs, Hp, -, HX⟩
  isplitl [HX]; · iexact HX
  isplitl [Hs] <;> iassumption

theorem hout0 (c : Dev nD) : (dat0 m c).Φ (Fin.last cfg0.N)
    ⊢ iprop(Pipeline.scopedRest spec0 c ∗ (∃ r, prngReg c r) ∗ StableHlo.held (c.tc : Thread nD τ) ∅ (V2 m (outs m) c) ∗ Pipeline.ownSems0 osem0 c ∗ Yk c) := by
  rw [show (dat0 m c).Φ (Fin.last _) = iprop(Yk c ∗ (idle c ∗ fams c) ∗ Pipeline.scopedRest spec0 c ∗ ∃ r, prngReg c r) from rfl, ownSems0_eq, held_none]
  iintro ⟨HY, Hf, Hs, Hp⟩
  isplitl [Hs]; · iexact Hs
  isplitl [Hp]; · iexact Hp
  isplitr; · iempintro
  isplitl [Hf] <;> iassumption

omit [FloatOps F] in
/-- The staging semaphores are idle in the schedule. -/
theorem stage_idle : ∀ (w : Fin 6) (s : Fin (spec0 w).nbuf), role (.dma ((spec0 w).sem s)) = .idle := by decide
omit [FloatOps F] in
theorem stage_level (c : Dev nD) (w : Fin 6) (s : Fin (spec0 w).nbuf) : lv ((c : Thread nD τ), .dma ((spec0 w).sem s)) () ≤ 0 := by
  dsimp only [lv]; rw [stage_idle]

theorem cutD (c : Dev nD) (t : Fin (cfg0.N + 1)) (g : GSem nD τ sig) (i : Unit) (h : 0 < (dat0 m c).owed t g i) : i ∈ L g ∧ (0 : ℕ) < lv g i := by
  have e : (dat0 m c).owed t = if t.val = 0 then O₀ c else 0 := rfl
  rw [e] at h
  split at h
  · rcases O₀_pos h with (⟨r, rfl⟩ | ⟨r, rfl⟩) | ⟨r, rfl⟩
    · exact ⟨by rw [L_tc]; exact Finset.mem_singleton_self _, by rw [lv_fam3]; decide⟩
    · exact ⟨by rw [L_tc]; exact Finset.mem_singleton_self _, by rw [lv_fam1]; decide⟩
    · exact ⟨by rw [L_tc]; exact Finset.mem_singleton_self _, by rw [lv_bar]; decide⟩
  · exact absurd h (Nat.lt_irrefl 0)

/-- The unscoped buffers that are no operand of the kernel. -/
abbrev others : Finset (DevRef τ sig) := Pipeline.ucRefs τ sig \ Pipeline.arrRefs (τ := τ) spec0

omit [FloatOps F] in
theorem arrs_sub : Pipeline.arrRefs (τ := τ) spec0 ⊆ Pipeline.ucRefs τ sig := Pipeline.arrRefs_sub_ucRefs spec0 (by decide)

theorem others_same (c : Dev nD) : ∀ b ∈ others \ ∅, V2 m (outs m) c b = V1 m c b := by
  intro b hb
  rw [Finset.sdiff_empty] at hb
  refine Function.update_of_ne (fun e => ?_) _ _
  subst e
  exact (Finset.mem_sdiff.mp hb).2 (by decide)

set_option backward.isDefEq.respectTransparency.types false in
/-- The kernel's region: entered with the operands as the host operations left them, left with the result block. -/
def reg0 : Pipeline.RegionSeg (pcfgs (F := F)) adm (pdats m) () defs₀ 𝒱₀ L lv 0 :=
  Pipeline.RegionSeg.ofTalk (pcfgs (F := F)) adm (pdats m) () defs₀ 𝒱₀ L lv 0 osem0 (by decide : Pipeline.OwnSemFacts spec0 osem0)
    ∅ others (Finset.empty_subset _) launch0.toP rfl (fun c => (body0 m c).loose)
    (fun _ => 0) O₀ (fun c => (owed_zero m c).trans (zero_add _).symm) (owed_last m) (fun _ => rfl) (fun c w => by unfold Dat.share; exact ite_self _)
    (V1 m) (V2 m (outs m)) (others_same m)
    (Tk m) Yk (Xk m) Yk (hopen0 m) (hin0 m) (hout0 m)
    (fun c => by iintro H; imodintro; iexact H)
    (fun _ => 0)
    ⟨fun c w s => by rw [L_tc]; exact Finset.mem_singleton_self _, fun c w s => stage_level c w s, fun c t g i h => cutD m c t g i h⟩
    (fun _ => iprop(emp))
    (fun _ _ => rfl) (fun c w => arrays_end m c w)

/-- What rides beside the buffers up to the region, and after it. -/
def rest (k : Fin 2) (c : Dev nD) : sProp 𝕄 :=
  match k with
  | 0 => iprop(Tk m c ∗ owesAny c (O₀ c) ∗ ∃ r, prngReg c r)
  | 1 => iprop(Yk c ∗ owesAny c 0)

theorem reg0_pre (c : Dev nD) : iprop(StableHlo.held (c : Thread nD τ) (Pipeline.ucRefs τ sig) (V1 m c) ∗ rest m 0 c) ⊢ (reg0 m).pre c := by
  show _ ⊢ iprop(StableHlo.held (c.tc : Thread nD τ) (Pipeline.arrRefs (τ := τ) spec0) (V1 m c) ∗ (∃ r, prngReg c r)
    ∗ (StableHlo.held (c.tc : Thread nD τ) others (V1 m c) ∗ emp) ∗ Tk m c ∗ ∃ Wd, owes (c : Thread nD τ) (0 + O₀ c) Wd)
  rw [zero_add, StableHlo.held_sub_split (c.tc : Thread nD τ) arrs_sub (V1 m c)]
  unfold rest
  iintro ⟨⟨Ha, Ho⟩, HT, HO, Hp⟩
  isplitl [Ha]; · iexact Ha
  isplitl [Hp]; · iexact Hp
  isplitl [Ho]
  · isplitl [Ho]; · iexact Ho
    iempintro
  isplitl [HT]; · iexact HT
  iexact HO

theorem reg0_post (c : Dev nD) : (reg0 m).post c ⊢ iprop(StableHlo.held (c : Thread nD τ) (Pipeline.ucRefs τ sig) (V2 m (outs m) c) ∗ rest m 1 c) := by
  show iprop(StableHlo.held (c.tc : Thread nD τ) (Pipeline.arrRefs (τ := τ) spec0) (V2 m (outs m) c) ∗ (∃ r, prngReg c r)
    ∗ (StableHlo.held (c.tc : Thread nD τ) others (V2 m (outs m) c) ∗ emp) ∗ Yk c ∗ ∃ Wd, owes (c : Thread nD τ) (0 : CellTallies nD τ sig Unit) Wd) ⊢ _
  rw [StableHlo.held_sub_split (c.tc : Thread nD τ) arrs_sub (V2 m (outs m) c)]
  unfold rest
  iintro ⟨Ha, -, ⟨Ho, -⟩, HY, HO⟩
  isplitl [Ha Ho]
  · isplitl [Ha]; · iexact Ha
    iexact Ho
  isplitl [HY]; · iexact HY
  iexact HO

end Cert.KernelIdeal.Run

end
-- ==== Proof.Launch.lean ====
/- The launch: every cell's record made, every token and credit dealt to the device that uses it. -/
module

public import proofs.«01_k».proof.Proof.Region

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Idealize.ShloMosaic.ValueIdx (ix2 ix3)
open Idealize.ShloMosaic.Transfers (shareTok shareDrop)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The cells and the tokens -/

abbrev barEmb : Dev nD ↪ GSem nD τ sig := ⟨fun c => barCell c, fun _ _ h => congrArg (fun g : GSem nD τ sig => g.1.1) h⟩
abbrev famEmb : Dev nD × Fin 4 × Fin 7 ↪ GSem nD τ sig :=
  ⟨fun p => fCell p.1 p.2.1 p.2.2, fun _ _ h => Prod.ext (congrArg (fun g : GSem nD τ sig => g.1.1) h)
    (fsem_inj (SemLoc.dma.inj (congrArg Prod.snd h)))⟩
/-- The barriers, open from the start. -/
abbrev liveCells : Finset (GSem nD τ sig) := Finset.univ.map barEmb
/-- The transfer semaphores, opened at the region's entry. -/
abbrev lateCells : Finset (GSem nD τ sig) := Finset.univ.map famEmb

abbrev barTokEmb : Dev nD × Fin 7 ↪ GSem nD τ sig × ℕ × Fin 7 :=
  ⟨fun p => (barCell p.1, 0, p.2), fun _ _ h => Prod.ext (congrArg (fun t : GSem nD τ sig × ℕ × Fin 7 => t.1.1.1) h)
    (congrArg (fun t : GSem nD τ sig × ℕ × Fin 7 => t.2.2) h)⟩
abbrev famTokEmb : Dev nD × Fin 4 × Fin 7 ↪ GSem nD τ sig × ℕ × Fin 7 :=
  ⟨fun p => (famEmb p, 0, 0), fun _ _ h => famEmb.injective (congrArg (fun t : GSem nD τ sig × ℕ × Fin 7 => t.1) h)⟩
/-- Every duty's token. -/
def allToks : Finset (GSem nD τ sig × ℕ × Fin 7) := Finset.univ.map barTokEmb ∪ Finset.univ.map famTokEmb

theorem cells_apart : Disjoint (liveCells : Finset (GSem nD τ sig)) lateCells := by
  rw [Finset.disjoint_left]
  rintro g h₁ h₂
  obtain ⟨c, -, rfl⟩ := Finset.mem_map.mp h₁
  obtain ⟨p, -, h⟩ := Finset.mem_map.mp h₂
  exact fam_ne_bar p.2.1 p.2.2 (congrArg Prod.snd h)
theorem toks_apart : Disjoint (Finset.univ.map barTokEmb : Finset (GSem nD τ sig × ℕ × Fin 7)) (Finset.univ.map famTokEmb) := by
  rw [Finset.disjoint_left]
  rintro g h₁ h₂
  obtain ⟨c, -, rfl⟩ := Finset.mem_map.mp h₁
  obtain ⟨p, -, h⟩ := Finset.mem_map.mp h₂
  exact fam_ne_bar p.2.1 p.2.2 (congrArg (fun t : GSem nD τ sig × ℕ × Fin 7 => t.1.2) h)

/-! ## Tokens to the devices that pay -/

/-- A pair of a device and a peer number, seen from the peer. -/
def across : Dev nD × Fin 7 ≃ Dev nD × Fin 7 :=
  ⟨fun p => (peer p.1 p.2, rev p.2), fun p => (peer p.1 p.2, rev p.2), fun p => Prod.ext (peer_rev p.1 p.2) (rev_rev p.2),
    fun p => Prod.ext (peer_rev p.1 p.2) (rev_rev p.2)⟩
/-- A pair of a device and an index, moved to the peer of that index. -/
def along : Dev nD × Fin 7 ≃ Dev nD × Fin 7 :=
  ⟨fun p => (peer p.1 p.2, p.2), fun p => (peer p.1 (rev p.2), p.2), fun p => Prod.ext (peer_rev p.1 p.2) rfl, fun p => Prod.ext (peer_rev' p.1 p.2) rfl⟩

omit [FloatOps F] in
theorem deal_across (Φ : Dev nD → Fin 7 → sProp (MT nD τ sig Unit (Elt F) ℕ UU ℕ)) :
    (bigSep Finset.univ fun c => bigSep Finset.univ fun r => Φ c r) = bigSep Finset.univ fun c => bigSep Finset.univ fun r => Φ (peer c r) (rev r) := by
  rw [← bigSep_univ_prod (fun p : Dev nD × Fin 7 => Φ p.1 p.2), bigSep_univ_equiv across (fun p : Dev nD × Fin 7 => Φ p.1 p.2), bigSep_univ_prod]
  rfl
omit [FloatOps F] in
theorem deal_along (Φ : Dev nD → Fin 7 → sProp (MT nD τ sig Unit (Elt F) ℕ UU ℕ)) :
    (bigSep Finset.univ fun c => bigSep Finset.univ fun r => Φ c r) = bigSep Finset.univ fun c => bigSep Finset.univ fun r => Φ (peer c r) r := by
  rw [← bigSep_univ_prod (fun p : Dev nD × Fin 7 => Φ p.1 p.2), bigSep_univ_equiv along (fun p : Dev nD × Fin 7 => Φ p.1 p.2), bigSep_univ_prod]
  rfl

omit [FloatOps F] in
/-- All the tokens, each with the device that pays with it. -/
theorem toks_dealt : bigSep allToks (fun x => (dutyTok ER x.1 x.2.1 x.2.2 : sProp 𝕄)) = bigSep Finset.univ fun c : Dev nD => bigSep Finset.univ (toks c) := by
  unfold allToks toks
  rw [bigSep_union toks_apart, bigSep_map, bigSep_map, bigSep_univ_prod, bigSep_univ_prod]
  rw [show (bigSep Finset.univ fun c : Dev nD => bigSep Finset.univ fun p : Fin 4 × Fin 7 =>
        (dutyTok ER (famTokEmb (c, p)).1 (famTokEmb (c, p)).2.1 (famTokEmb (c, p)).2.2 : sProp 𝕄))
      = bigSep Finset.univ fun c : Dev nD => bigSep Finset.univ fun r : Fin 7 => iprop(dutyTok ER (fCell c 0 r) 0 0 ∗ dutyTok ER (fCell c 1 r) 0 0
          ∗ dutyTok ER (fCell c 2 r) 0 0 ∗ (dutyTok ER (fCell c 3 r) 0 0 : sProp 𝕄))
      from bigSep_congr fun c _ => famGrid (fun a r => (dutyTok ER (fCell c a r) 0 0 : sProp 𝕄))]
  rw [show (bigSep Finset.univ fun c : Dev nD => bigSep Finset.univ fun r : Fin 7 =>
        (dutyTok ER (barTokEmb (c, r)).1 (barTokEmb (c, r)).2.1 (barTokEmb (c, r)).2.2 : sProp 𝕄))
      = bigSep Finset.univ fun c : Dev nD => bigSep Finset.univ fun r : Fin 7 => (dutyTok ER (barCell (peer c r)) 0 (rev r) : sProp 𝕄)
      from deal_across (fun c r => (dutyTok ER (barCell c) 0 r : sProp 𝕄))]
  simp only [bigSep_sep']
  rw [deal_along (fun c r => (dutyTok ER (fCell c 1 r) 0 0 : sProp 𝕄)), deal_along (fun c r => (dutyTok ER (fCell c 3 r) 0 0 : sProp 𝕄))]
  rfl

/-! ## The credits of the launch -/

omit [FloatOps F] in
theorem seven_apply (f : Fin 7 → CellTallies nD τ sig Unit) (b : CellTallies nD τ sig Unit) (g : GSem nD τ sig) (u : Unit) :
    seven f b g u = b g u + ∑ r, f r g u := by
  unfold seven
  simp only [Pi.add_apply, Finsupp.add_apply, Fin.sum_univ_seven]
  omega

theorem fDue_sum (c : Dev nD) (a : Fin 4) (r : Fin 7) : ∑ d : Dev nD, ∑ k, fDue d a k (fCell c a r) () = N := by
  rw [Finset.sum_comm, Fintype.sum_eq_single r, Fintype.sum_eq_single (peer c (rev r))]
  · rw [tallyAt_apply, peer_rev', if_pos ⟨rfl, rfl⟩]
  · intro d hd
    rw [tallyAt_apply, if_neg]
    rintro ⟨h, -⟩
    have h' : c = peer d r := congrArg (fun g : GSem nD τ sig => g.1.1) h
    exact hd (by rw [h', peer_rev])
  · intro k hk
    refine Finset.sum_eq_zero fun d _ => ?_
    rw [tallyAt_apply, if_neg]
    rintro ⟨h, -⟩
    exact hk (congrArg Prod.snd (@fsem_inj (a, r) (a, k) (SemLoc.dma.inj (congrArg Prod.snd h)))).symm
theorem fDue_none {g : GSem nD τ sig} {a : Fin 4} (h : ∀ d r, g ≠ fCell d a r) : ∑ d : Dev nD, ∑ k, fDue d a k g () = 0 :=
  Finset.sum_eq_zero fun d _ => Finset.sum_eq_zero fun k _ => by rw [tallyAt_apply, if_neg fun e => h _ _ e.1]
theorem bDue_sum (c : Dev nD) : ∑ d : Dev nD, ∑ k, bDue d k (barCell c) () = 7 := by
  rw [Finset.sum_comm, Finset.sum_congr rfl (g := fun _ => 1) fun r _ => ?_]
  · rfl
  · rw [Fintype.sum_eq_single (peer c (rev r))]
    · rw [tallyAt_apply, peer_rev', if_pos ⟨rfl, rfl⟩]
    · intro d hd
      rw [tallyAt_apply, if_neg]
      rintro ⟨h, -⟩
      have h' : c = peer d r := congrArg (fun g : GSem nD τ sig => g.1.1) h
      exact hd (by rw [h', peer_rev])
theorem bDue_none {g : GSem nD τ sig} (h : ∀ d, g ≠ barCell d) : ∑ d : Dev nD, ∑ k, bDue d k g () = 0 :=
  Finset.sum_eq_zero fun d _ => Finset.sum_eq_zero fun k _ => by rw [tallyAt_apply, if_neg fun e => h _ e.1]

/-- Everything owed to a cell, by family. -/
theorem owed_sum (g : GSem nD τ sig) :
    ∑ d : Dev nD, O₀ d g () = (∑ d : Dev nD, ∑ k, fDue d 3 k g ()) + (∑ d : Dev nD, ∑ k, fDue d 1 k g ()) + ∑ d : Dev nD, ∑ k, bDue d k g () := by
  rw [← Finset.sum_add_distrib, ← Finset.sum_add_distrib]
  refine Finset.sum_congr rfl fun d _ => ?_
  rw [seven_apply (bDue d), seven_apply (fDue d 1), seven_apply (fDue d 3)]
  simp

theorem fam_ne_fam {a b : Fin 4} (hab : a ≠ b) (c d : Dev nD) (r k : Fin 7) : fCell c a r ≠ fCell d b k := fun h =>
  hab (congrArg Prod.fst (@fsem_inj (a, r) (b, k) (SemLoc.dma.inj (congrArg Prod.snd h))))
theorem fam_ne_bar' (a : Fin 4) (c d : Dev nD) (r : Fin 7) : fCell c a r ≠ barCell d := fun h => fam_ne_bar a r (congrArg Prod.snd h)

theorem owed_bar (c : Dev nD) : ∑ d : Dev nD, O₀ d (barCell c) () = 7 := by
  rw [owed_sum, bDue_sum, fDue_none fun d r => (fam_ne_bar' 3 d c r).symm, fDue_none fun d r => (fam_ne_bar' 1 d c r).symm]
theorem owed_1 (c : Dev nD) (r : Fin 7) : ∑ d : Dev nD, O₀ d (fCell c 1 r) () = N := by
  rw [owed_sum, fDue_sum, bDue_none fun d => fam_ne_bar' 1 c d r, fDue_none fun d k => fam_ne_fam (by decide) c d r k, Nat.zero_add, Nat.add_zero]
theorem owed_3 (c : Dev nD) (r : Fin 7) : ∑ d : Dev nD, O₀ d (fCell c 3 r) () = N := by
  rw [owed_sum, fDue_sum, bDue_none fun d => fam_ne_bar' 3 c d r, fDue_none fun d k => fam_ne_fam (by decide) c d r k]; rfl

/-- A cell's launch credit is what the devices owe it. -/
theorem launch_at (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

/-- The two families whose credits come with the launch. -/
abbrev lateEmb : Fin 2 × Fin 7 ↪ SemLoc sig := ⟨fun p => .dma (fsem (if p.1 = 0 then 1 else 3) p.2), by decide⟩

/-- A device's launch credits: its barrier's seven units and the two families that peers complete. -/
theorem creds (c : Dev nD) :
    (Pipeline.launchCred O₀ c : sProp 𝕄) ⊢ iprop(cred (tallyAt (barCell c) () 7) ∗ (bigSep Finset.univ fun r => cred (tallyAt (fCell c 1 r) () N))
      ∗ bigSep Finset.univ fun r => cred (tallyAt (fCell c 3 r) () N)) := by
  unfold Pipeline.launchCred
  rw [bigSep_univ_at _ (SemLoc.reg barrier0), launch_at (barCell c) 7 (owed_bar c)]
  refine sep_mono_right ?_
  refine BIBase.Entails.trans (BI.bigSep_subset (t := Finset.univ.map lateEmb) ?_) ?_
  · intro s hs
    obtain ⟨p, -, rfl⟩ := Finset.mem_map.mp hs
    exact Finset.mem_erase.mpr ⟨fam_ne_bar _ _, Finset.mem_univ _⟩
  rw [bigSep_map, bigSep_univ_prod]
  refine Entails.of_eq ((BI.bigSep_fin_two _).trans ?_)
  congr 1
  · exact bigSep_congr fun r _ => congrArg cred (launch_at (fCell c 1 r) N (owed_1 c r))
  · exact bigSep_congr fun r _ => congrArg cred (launch_at (fCell c 3 r) N (owed_3 c r))

/-! ## Everything dealt -/

omit [FloatOps F] in
theorem split_all {X Y : Dev nD → sProp (MT nD τ sig Unit (Elt F) ℕ UU ℕ)} :
    (bigSep Finset.univ fun c => iprop(X c ∗ Y c)) ⊢ iprop(bigSep Finset.univ X ∗ bigSep Finset.univ Y) := Entails.of_eq (bigSep_sep' _ _ _)
omit [FloatOps F] in
theorem join_all {X Y : Dev nD → sProp (MT nD τ sig Unit (Elt F) ℕ UU ℕ)} :
    iprop(bigSep Finset.univ X ∗ bigSep Finset.univ Y) ⊢ (bigSep Finset.univ fun c => iprop(X c ∗ Y c)) := Entails.of_eq (bigSep_sep' _ _ _).symm

/-- The ghost state at launch: the pipeline's, and the schedule's. -/
def u₀ : UU := (initOf (Pipeline.cells cfgs cellOf_inj) (Pipeline.launchToks cfgs cellOf_inj), launchOf liveCells lateCells allToks)

/-- A resource held by device 0 alone. -/
def onFirst (X : sProp 𝕄) (c : Dev nD) : sProp 𝕄 := if c = 0 then X else iprop(emp)
omit [FloatOps F] in
theorem bigSep_onFirst (X : sProp (MT nD τ sig Unit (Elt F) ℕ UU ℕ)) : bigSep Finset.univ (onFirst X) = X := by
  rw [bigSep_univ_at _ (0 : Dev nD), bigSep_congr (s := Finset.univ.erase (0 : Dev nD)) (Ψ := fun _ => (BI.emp : sProp 𝕄))
      fun c hc => by unfold onFirst; rw [if_neg (Finset.ne_of_mem_erase hc)]; rfl, BI.bigSep_emp_const]
  unfold onFirst; rw [if_pos rfl]
  exact BI.equiv_iff.mp sep_emp

/-- The schedule's launch element waits on device 0 for the global step. -/
def G : Dev nD → sProp 𝕄 := onFirst (BI.own (ER (launchOf liveCells lateCells allToks)))

/-- What the global step deals to each device. -/
def share (c : Dev nD) : sProp 𝕄 := iprop(atPos ER (barCell c) 0 ∅ 0 ∗ rights c ∗ bigSep Finset.univ (toks c))
/-- What a device has at launch beside the schedule's ghost state. -/
def own_ (ρ : Dev nD → PrngReg) (c : Dev nD) : sProp 𝕄 :=
  iprop(StableHlo.held (c : Thread nD τ) (Pipeline.ucRefs τ sig) (V0 m c) ∗ owes (c : Thread nD τ) (O₀ c) ∅ ∗ Pipeline.launchCred O₀ c ∗ prngReg c (ρ c))

theorem start_of (ρ : Dev nD → PrngReg) (κ : GSem nD τ sig → ℕ) (c : Dev nD) :
    iprop(records m κ ∗ (share c ∗ own_ m ρ c)) ⊢ iprop(StableHlo.held (c : Thread nD τ) (Pipeline.ucRefs τ sig) (V0 m c) ∗ rest m 0 c) := by
  unfold share own_ rest Tk
  iintro ⟨#HR, ⟨HB, Hr, HT⟩, Hh, HO, HC, Hp⟩
  ihave HC := (creds c) $$ HC
  isplitl [Hh]; · iexact Hh
  isplitl [HB Hr HT HC]
  · isplitr; · iexists κ; iexact HR
    isplitl [HB]; · iexact HB
    isplitl [Hr]; · iexact Hr
    isplitl [HT]; · iexact HT
    iexact HC
  isplitl [HO]; · iexists ∅; iexact HO
  iexists _; iexact Hp

omit [FloatOps F] in
theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barrier0} from by decide, BI.bigSep_singleton]

/-- The records, out of what the global step makes. -/
theorem records_of (κ : GSem nD τ sig → ℕ) :
    iprop((bigSep (liveCells ∪ lateCells) fun g => cellInv ER (Rd m) (κ g) g) ∗ bigSep liveCells fun g => (reached ER g 0 : sProp 𝕄)) ⊢ records m κ := by
  unfold records
  have hU : (bigSep (liveCells ∪ lateCells) fun g => (cellInv ER (Rd m) (κ g) g : sProp 𝕄))
      ⊢ iprop((bigSep liveCells fun g => cellInv ER (Rd m) (κ g) g) ∗ bigSep lateCells fun g => cellInv ER (Rd m) (κ g) g) :=
    Entails.of_eq (bigSep_union cells_apart)
  iintro ⟨H, H3⟩
  ihave H := hU $$ H
  icases H with ⟨H1, H2⟩
  ihave H1 := (Entails.of_eq (bigSep_map (s := Finset.univ) barEmb (Φ := fun g => cellInv ER (Rd m) (κ g) g))) $$ H1
  ihave H2 := (Entails.of_eq (bigSep_map (s := Finset.univ) famEmb (Φ := fun g => cellInv ER (Rd m) (κ g) g))) $$ H2
  ihave H3 := (Entails.of_eq (bigSep_map (s := Finset.univ) barEmb (Φ := fun g => (reached ER g 0 : sProp 𝕄)))) $$ H3
  isplitl [H1]; · iexact H1
  isplitl [H2]; · iexact H2
  iexact H3

/-- The global step of the launch. -/
theorem init (ρ : Dev nD → PrngReg) :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ fun c : Dev nD => iprop(StableHlo.held (c : Thread nD τ) (Pipeline.ucRefs τ sig) (V0 m c) ∗ rest m 0 c) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(own_ m ρ c ∗ (semVal (barCell c) 0 ∗ G c)) : sProp 𝕄) := by
    rw [show unscopedBufs c (fun b => m ((c : Thread nD τ).loc b)) = StableHlo.held (c : Thread nD τ) (Pipeline.ucRefs τ sig) (V0 m c)
      from Pipeline.unscopedBufs_held (Ix := Unit) (Name := ℕ) (U := UU) (Lvl := ℕ) c (V0 m c), unscopedSems0_eq]
    unfold own_
    iintro ⟨Hh, Hs, HO, HC, Hp, HG⟩
    isplitr [Hs HG]
    · isplitl [Hh]; · iexact Hh
      isplitl [HO]; · iexact HO
      isplitl [HC] <;> iassumption
    isplitl [Hs] <;> iassumption
  have hv : bigSep Finset.univ (fun c : Dev nD => (semVal (barCell c) 0 : sProp 𝕄)) ⊢ bigSep liveCells (fun g => (semVal g 0 : sProp 𝕄)) :=
    Entails.of_eq (bigSep_map (s := Finset.univ) barEmb (Φ := fun g : GSem nD τ sig => (semVal g 0 : sProp 𝕄))).symm
  have hat : bigSep liveCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hop : bigSep lateCells (fun g => (openTok ER g : sProp 𝕄)) ⊢ bigSep Finset.univ (fun c : Dev nD => (rights c : sProp 𝕄)) :=
    Entails.of_eq (by rw [bigSep_map, bigSep_univ_prod]; rfl)
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(own_ m ρ c ∗ (semVal (barCell c) 0 ∗ G c)) : sProp 𝕄) from BI.bigSep_mono fun c _ => hcore c) $$ H
  ihave H2 := split_all $$ H'; icases H2 with ⟨HB, H3⟩
  ihave H4 := split_all $$ H3; icases H4 with ⟨Hv, HG⟩
  ihave Hu := (show bigSep Finset.univ (G (F := F)) ⊢ BI.own (ER (launchOf liveCells lateCells allToks)) from
    Entails.of_eq (bigSep_onFirst (F := F) (BI.own (ER (launchOf liveCells lateCells allToks))))) $$ HG
  imod (Rounds.fund_launch ER (Rd m) cells_apart (fun g _ h => h) allToks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(share c ∗ own_ m ρ c)) fun c _ => start_of m ρ κ c)
  isplitr
  · iapply (records_of m κ)
    isplitr; · iexact Hinv
    iexact Hr
  iapply join_all
  isplitr [HB]
  · unfold share
    iapply join_all; isplitl [Hat]; · iapply hat $$ Hat
    iapply join_all; isplitl [Hopen]; · iapply hop $$ Hopen
    iapply (Entails.of_eq (toks_dealt (F := F))) $$ Htok
  · iexact HB

end Cert.KernelIdeal.Run

end
-- ==== Proof.Run.lean ====
/- The run: what every complete execution of the kernel leaves behind. -/
module

public import proofs.«01_k».proof.Proof.Launch

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Idealize.ShloMosaic.ValueIdx (ix2 ix3)
open Idealize.ShloMosaic.Transfers (shareTok shareDrop)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-- What a device holds at the end: its buffers, and its barrier at zero. -/
def final (c : Dev nD) : sProp 𝕄 := iprop(StableHlo.held (c : Thread nD τ) (Pipeline.ucRefs τ sig) (V3 m (outs m) c) ∗ Yk c)

theorem unscoped_eq : ∀ sm : SemLoc sig, sm.isScoped .tc = false → sm = .reg barrier0 := by decide

set_option backward.isDefEq.respectTransparency.types false in
/-- From any memory with zero counters, every weakly fair execution of the kernel on the eight devices terminates; every final
    state has each argument as launched, the result as the last valuation has it, and every semaphore counter at zero. -/
theorem run_main (ρ : Dev nD → PrngReg) : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v19) = V3 m (outs m) c main_v19) ∧ r.2.sem = fun _ => 0) := by
  refine Pipeline.θ_run_regions_kit_dev_sems (pcfgs (F := F)) adm (pdats m) () cellOf_inj EP defs₀ 𝒱₀ L lv m ρ main
    (segs m (outs m) 𝒱₀ L lv (rest m) () (pdats m) (reg0 m))
    (fun c Q => by
      rewrite [main_chain c, Pipeline.Seg.run_eq_chain,
        show (segs m (outs m) 𝒱₀ L lv (rest m) () (pdats m) (reg0 m) c).map Pipeline.Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Pipeline.Seg.pipes_host, Pipeline.Seg.pipes_region, Pipeline.Seg.pipes_nil]; decide)
    (O₀ := O₀) (hL := L_of_ne) (G := G) (u₀ := u₀)
    (hu₀ := ?_)
    (T₀ := fun c => iprop(StableHlo.held (c : Thread nD τ) (Pipeline.ucRefs τ sig) (V0 m c) ∗ rest m 0 c))
    (Tₙ := final m)
    (hch := fun c => ⟨.rfl, reg0_pre m c, reg0_post m c, ?_⟩)
    (hinit := init m ρ)
    (QY := fun c s => ((s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4))
      ∧ s.mem ((c.tc : Thread nD τ).loc main_v19) = V3 m (outs m) c main_v19) ∧ s.sem (barCell c) = 0)
    (hfin := fun c s' => ?_)
    (hQ := fun s h hs => ⟨fun c => (h c).1, sem_eq_zero hs fun c sm hsm => by
      obtain rfl := unscoped_eq sm hsm
      exact (h c).2⟩)
  · unfold u₀ G
    iintro Hu
    ihave H := (ownU_pair _ _) $$ Hu
    icases H with ⟨HP, HX⟩
    imodintro
    isplitl [HP]; · iexact HP
    rw [bigSep_onFirst]; iexact HX
  · show iprop(StableHlo.held (c : Thread nD τ) (Pipeline.ucRefs τ sig) (V3 m (outs m) c) ∗ (Yk c ∗ owesAny c 0))
      ⊢ iprop(final m c ∗ ∃ W, owes (c : Thread nD τ) (0 : CellTallies nD τ sig Unit) W)
    unfold final owesAny
    iintro ⟨Hh, Hb, HO⟩
    isplitr [HO]
    · isplitl [Hh] <;> iassumption
    · iexact HO
  · unfold final Yk StableHlo.held
    iintro ⟨⟨Hh, Hb⟩, HSI⟩
    icombine HSI Hb gives %hb
    ihave Hr := (pointsTo_read_all (Pipeline.ucRefs τ sig) (fun b => ((c : Thread nD τ).1, b)) (V3 m (outs m) c) s') $$ [Hh HSI]
    · isplitl [Hh] <;> iassumption
    icases Hr with ⟨%h, HSI⟩
    imodintro
    isplitr
    · ipureintro
      have at_ (b : Ref sig .tc) (hb : (Proc.devRef (τ := τ) .tc b) ∈ Pipeline.ucRefs τ sig) := h (Proc.devRef .tc b) hb
      exact ⟨⟨⟨(at_ main_arg0 (Finset.mem_filter.mpr ⟨StableHlo.devRef_mem_tcRefs main_arg0, by decide⟩)).trans (V3_main_arg0 m (outs m) c),
        (at_ main_arg1 (Finset.mem_filter.mpr ⟨StableHlo.devRef_mem_tcRefs main_arg1, by decide⟩)).trans (V3_main_arg1 m (outs m) c),
        (at_ main_arg2 (Finset.mem_filter.mpr ⟨StableHlo.devRef_mem_tcRefs main_arg2, by decide⟩)).trans (V3_main_arg2 m (outs m) c),
        (at_ main_arg3 (Finset.mem_filter.mpr ⟨StableHlo.devRef_mem_tcRefs main_arg3, by decide⟩)).trans (V3_main_arg3 m (outs m) c),
        (at_ main_arg4 (Finset.mem_filter.mpr ⟨StableHlo.devRef_mem_tcRefs main_arg4, by decide⟩)).trans (V3_main_arg4 m (outs m) c)⟩,
        at_ main_v19 (Finset.mem_filter.mpr ⟨StableHlo.devRef_mem_tcRefs main_v19, by decide⟩)⟩, by simpa using hb⟩
    iexact HSI

end Cert.KernelIdeal.Run

end
-- ==== Proof.Frames.lean ====
/- The runs and resting machines of the kernel as printed, of the kernel over extended reals, and of the reference. -/
module

public import proofs.«01_k».proof.Defs
public import proofs.«01_k».proof.Proof.Run
public import proofs.«01_k».proof.Proof.Gen.Kernel
public import proofs.«01_k».proof.Proof.Gen.ReferenceIdeal.Run

@[expose] public section

noncomputable section

namespace Cert.Proof

open Idealize.ShloMosaic Idealize.SL.Sem

/-- The two printings of the kernel have one body table. -/
theorem bodies_same : (Cert.Kernel.defs₀ (F := Bits)) = Cert.KernelIdeal.defs₀ (F := Bits) := by
  unfold Cert.Kernel.defs₀ Cert.KernelIdeal.defs₀
  refine congrArg Defs.onTc (funext fun l => funext fun a => ?_)
  match l, a with
  | 0, (t, s) => rfl
  | ⟨n + 1, h⟩, _ => exact absurd h (by simp)
theorem tables_same : (Cert.Kernel.defs (F := Bits)) = Cert.KernelIdeal.defs (F := Bits) := congrArg (Pipeline.defs Cert.KernelIdeal.pcfgs) bodies_same

/-- The kernel as printed runs, leaves its arguments as they were, and ends with every semaphore at zero. -/
theorem frame_kernel : Cert.quiescent_Kernel := fun m ρ _ => by
  have h := (θ_run (Cert.KernelIdeal.defs (F := Bits)) (onTc (τ := Cert.KernelIdeal.τ) (Cert.KernelIdeal.main (F := Bits))) ⟨m, fun _ => 0, ρ⟩).mono
    (fun r (h : _ ∧ r.2.sem = fun _ => 0) => (⟨fun c => (h.1 c).1, h.2⟩ : (∀ c, _) ∧ r.2.sem = fun _ => 0)) (Cert.KernelIdeal.Run.run_main (F := Bits) m ρ)
  rw [tables_same]
  exact h

/-- The kernel over extended reals runs, leaves its arguments as they were, and ends with every semaphore at zero. -/
theorem frame_ideal : Cert.quiescent_KernelIdeal := fun m ρ _ =>
  (θ_run Cert.KernelIdeal.defs _ _).mono (fun _ h => ⟨fun c => (h.1 c).1, h.2⟩) (Cert.KernelIdeal.Run.run_main (F := Ideal) m ρ)

/-- The reference runs and leaves its arguments as they were; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.KernelValue.lean ====
/- The kernel's payloads and operands, read at an index over the extended reals. -/
module

public import proofs.«01_k».proof.Proof.Region
public import Idealize.ShloMosaic.Lib.Pointwise
public import Idealize.ShloMosaic.Lib.StableHlo.ReadAt
public import Idealize.ShloMosaic.Lib.DynamicIndex

@[expose] public section

noncomputable section

namespace Cert.KernelIdeal.Run

open Idealize.ShloMosaic
open Idealize.ShloMosaic.TcCoe
open Cert.KernelIdeal Cert.KernelIdeal.Gen

/-! ## The payloads -/

/-- Entry `j` of the softmax of a row of 128 scores: exponentials of the scores less their maximum, over the sum of those. -/
def soft (s : Fin 128 → EReal) (j : Fin 128) : EReal :=
  Ideal.div (Ideal.exp (s j - Finset.univ.fold max (Ideal.ofBits .f32 0xFF800000#32) s))
    (∑ l : Fin 128, Ideal.exp (s l - Finset.univ.fold max (Ideal.ofBits .f32 0xFF800000#32) s))

/-- The scaled projection: a row of the input times a column of the query weights, times the scale. -/
theorem proj_at (x : Vec Ideal S256x512 .bf16) (wq : Vec Ideal S512x256 .bf16) (r n : Fin 256) :
    k0_pay1 x wq (ix2 r n) = (∑ e : Fin 512, x (ix2 r e) * wq (ix2 e n)) * Ideal.ofBits .f32 0x3E000000#32 := by
  pointwise [k0_pay1]

/-- A head's exponential at query `r`, key `j`. -/
theorem headExp_at (q : FVec Ideal S128x64 .f32) (kb : Vec Ideal S1x1x128x64 .bf16) (r j : Fin 128) :
    headExp q kb (ix2 r j) = Ideal.exp ((∑ e : Fin 64, q (ix2 r e) * kb (ix4 0 0 j e))
      - Finset.univ.fold max (Ideal.ofBits .f32 0xFF800000#32) fun l => ∑ e : Fin 64, q (ix2 r e) * kb (ix4 0 0 l e)) := by
  pointwise [headExp]

/-- A head's output: the softmax of the query's scores, summed against the values. -/
theorem head_at (q : FVec Ideal S128x64 .f32) (kb vb : Vec Ideal S1x1x128x64 .bf16) (r : Fin 128) (d : Fin 64) :
    head q kb vb (ix2 r d) = ∑ j : Fin 128, soft (fun l => ∑ e : Fin 64, q (ix2 r e) * kb (ix4 0 0 l e)) j * vb (ix4 0 0 j d) := by
  pointwise [head, soft, headExp_at]

/-- A block of the keys or values is the batch and head it names. -/
theorem blk_at (k : Vec Ideal S2x4x128x64 .bf16) (b : Fin 2) (h : Fin 4) (j : Fin 128) (e : Fin 64) :
    blk k b h (ix4 0 0 j e) = k (ix4 b h j e) := by
  show View.ld k (Rect.unit (s := S2x4x128x64) ![b.val, h.val, 0, 0] S1x1x128x64.size (blk_inb b h)) (ix4 0 0 j e) = _
  pointwise

/-- The attention output of a batch and a local head, from the operands. -/
theorem tile_at (x : Vec Ideal S256x512 .bf16) (wq : Vec Ideal S512x256 .bf16) (k v : Vec Ideal S2x4x128x64 .bf16) (b : Fin 2) (h : Fin 4)
    (r : Fin 128) (d : Fin 64) :
    tile x wq k v b h (ix2 r d) = ∑ j : Fin 128, soft (fun l => ∑ e : Fin 64,
      ((∑ e' : Fin 512, x (ix2 ⟨128 * b.val + r.val, by omega⟩ e') * wq (ix2 e' ⟨64 * h.val + e.val, by omega⟩)) * Ideal.ofBits .f32 0x3E000000#32)
        * k (ix4 b h l e)) j * v (ix4 b h j d) := by
  pointwise [tile, head_at, proj_at, blk_at]

/-- A partial product sent to a peer: rows of the attention output times a device's part of the output weights. -/
theorem send_at (wo : Vec Ideal S256x512 .bf16) (y : Vec Ideal S32x256 .f32) (r : Fin 32) (n : Fin 512) :
    k0_pay19 (k0_pay17 wo) y (ix3 0 r n) = ∑ k : Fin 256, y (ix2 r k) * wo (ix2 k n) := by
  pointwise [k0_pay19, k0_pay17]

/-- A device's own partial product and the seven it receives, added in order. -/
theorem sum8_at (wo : Vec Ideal S256x512 .bf16) (y : Vec Ideal S32x256 .f32) (g : Fin 7 → Vec Ideal S1x32x512 .bf16) (r : Fin 32) (n : Fin 512) :
    k0_pay29 (k0_pay27 (k0_pay26 (k0_pay17 wo) y (g 0) (g 1)) (g 2) (g 3)) (k0_pay28 (g 4)) (g 5) (g 6) (ix3 0 r n) =
      (∑ k : Fin 256, y (ix2 r k) * wo (ix2 k n)) + g 0 (ix3 0 r n) + g 1 (ix3 0 r n) + g 2 (ix3 0 r n) + g 3 (ix3 0 r n) + g 4 (ix3 0 r n)
        + g 5 (ix3 0 r n) + g 6 (ix3 0 r n) := by
  pointwise [k0_pay29, k0_pay28, k0_pay27, k0_pay26, k0_pay17]

/-- Row `r` of a device's 32 rows is row `32 t + r` of all. -/
theorem rowsOf_at (y : Vec Ideal S256x256 .f32) (t : Dev nD) (r : Fin 32) (n : Fin 256) :
    rowsOf y t (ix2 r n) = y (ix2 ⟨32 * t.val + r.val, by have : t.val < 8 := t.isLt; omega⟩ n) := by
  show View.ld y (Rect.unit (s := S256x256) ![32 * t.val, 0] S32x256.size (rows_inb t)) (ix2 r n) = _
  pointwise

/-! ## The operands and the result -/

/-- A device's four heads lie inside the 32. -/
theorem heads_fit (c : Dev nD) : S2x128x32x64.Slices ![0, 0, 4 * c.val, 0] S2x128x4x64 := by
  revert c; decide

/-- The word the device computes for its first head is four times its number. -/
theorem first_head (c : Dev nD) :
    BitVec.toInt (select (cmpi .slt (muli (id (Host.remui (Host.divui (constantI S_ 32 (Dev.word c)) (constantI S_ 32 1#32)) (constantI S_ 32 8#32))) (constantI S_ 32 4#32))
      (constantI S_ 32 0#32))
      (addi (muli (id (Host.remui (Host.divui (constantI S_ 32 (Dev.word c)) (constantI S_ 32 1#32)) (constantI S_ 32 8#32))) (constantI S_ 32 4#32)) (constantI S_ 32 32#32))
      (muli (id (Host.remui (Host.divui (constantI S_ 32 (Dev.word c)) (constantI S_ 32 1#32)) (constantI S_ 32 8#32))) (constantI S_ 32 4#32)) (Shape.Idx.first h_S_))
      = 4 * (c.val : Int) := by
  revert c; decide

/-- A slice of four heads at starts `0, 0, 4 c, 0`, heads before positions: local head `h` is head `4 c + h`. -/
theorem heads_at (x : Vec Ideal S2x128x32x64 .bf16) (c : Dev nD) (st : Fin 4 → Int) (h0 : st 0 = 0) (h1 : st 1 = 0) (h2 : st 2 = 4 * (c.val : Int)) (h3 : st 3 = 0)
    (b : Fin 2) (h : Fin 4) (j : Fin 128) (d : Fin 64) :
    transpose S2x4x128x64 [0, 2, 1, 3] (Host.dynamicSlice S2x128x4x64 x st sliceFits_S2x128x32x64_S2x128x4x64)
      transposes_S2x128x4x64_S2x4x128x64_0_2_1_3 (ix4 b h j d) = x (ix4 b j ⟨4 * c.val + h.val, by have : c.val < 8 := c.isLt; omega⟩ d) := by
  rw [Host.dynamicSlice_eq_extractStridedSlice (off := ![0, 0, 4 * c.val, 0]) (hoff := heads_fit c)
    (hs := by intro a; fin_cases a; exacts [h0, h1, h2.trans (by simp), h3])]
  pointwise

variable (m : (ℓ : Loc nD τ sig) → Buf (Elt Ideal) ℓ)

/-- The keys a device is given: its four heads of all. -/
theorem kIn_at (c : Dev nD) (b : Fin 2) (h : Fin 4) (j : Fin 128) (d : Fin 64) :
    kIn m c (ix4 b h j d) = m ((c.tc : Thread nD τ).loc main_arg2) (ix4 b j ⟨4 * c.val + h.val, by have : c.val < 8 := c.isLt; omega⟩ d) := by
  unfold kIn V1
  after_reads_simp
  refine heads_at _ c _ ?_ ?_ ?_ ?_ b h j d <;> simp only [Matrix.cons_val_zero, Matrix.cons_val_one, Matrix.cons_val] <;> after_reads_simp <;>
    first | rfl | exact first_head c

/-- The values a device is given: its four heads of all. -/
theorem vIn_at (c : Dev nD) (b : Fin 2) (h : Fin 4) (j : Fin 128) (d : Fin 64) :
    vIn m c (ix4 b h j d) = m ((c.tc : Thread nD τ).loc main_arg3) (ix4 b j ⟨4 * c.val + h.val, by have : c.val < 8 := c.isLt; omega⟩ d) := by
  unfold vIn V1
  after_reads_simp
  refine heads_at _ c _ ?_ ?_ ?_ ?_ b h j d <;> simp only [Matrix.cons_val_zero, Matrix.cons_val_one, Matrix.cons_val] <;> after_reads_simp <;>
    first | rfl | exact first_head c

/-- The input a device is given: rows are (batch, position). -/
theorem xIn_at (c : Dev nD) (r : Fin 256) (e : Fin 512) :
    xIn m c (ix2 r e) = m ((c.tc : Thread nD τ).loc main_arg0) (ix3 ⟨r.val / 128, by omega⟩ ⟨r.val % 128, by omega⟩ e) := by
  unfold xIn V1
  after_reads_at

/-- The result at (batch, position, column): the reduced block that holds the row. -/
theorem result_at (c : Dev nD) (b : Fin 2) (i : Fin 128) (n : Fin 512) :
    V3 m (outs m) c main_v19 (ix3 b i n) = red m ⟨b.val * 4 + i.val / 32, by show _ < 8; omega⟩ (ix3 0 ⟨i.val % 32, by omega⟩ n) := by
  have h : V3 m (outs m) c main_v19 = shapeCast S2x128x512 (outV m) shapeCasts_S8x32x512_S2x128x512 := by
    rw [← V2_result m c]
    unfold V3
    after_reads_simp
    rfl
  rw [h]
  pointwise [outV, gath, k0_pay30]
  rfl

end Cert.KernelIdeal.Run

end
-- ==== Proof.RefValue.lean ====
/- The reference's term in stages, and each stage read at an index over the extended reals. -/
module

public import proofs.«01_k».proof.Proof.Gen.ReferenceIdeal.Run
public import Idealize.ShloMosaic.Lib.Pointwise

@[expose] public section
noncomputable section
namespace Cert.ReferenceIdeal.Value
open Cert.ReferenceIdeal Cert.ReferenceIdeal.Gen Idealize.ShloMosaic Idealize.ShloMosaic.TcCoe Idealize.ShloMosaic.StableHlo

/-- Whether a key is in a query's window. -/
def near : IVec S128x128 1 :=
  cmpi .sle (absi (subi (broadcastInDim S128x128 ![0, 1] bcast_S128x1_S128x128_0_1 (broadcastInDim S128x1 ![0] bcast_S128_S128x1_0 (iotaInDim S128 32 0)))
    (broadcastInDim S128x128 ![0, 1] bcast_S1x128_S128x128_0_1 (broadcastInDim S1x128 ![1] bcast_S128_S1x128_1 (iotaInDim S128 32 0)))))
    (broadcastInDim S128x128 ![] bcast_S_S128x128 (constantI S_ 32 128#32))
/-- Whether a query's window has a key. -/
def anyNear : IVec S128 1 := Host.reduce IntOp.ori near (constantI S_ 1 0#1) reducesTo_S128x128_S128_d1 h_S_

set_option maxRecDepth 100000 in
/-- Every key of the 128 is in every query's window. -/
theorem near_at (i j : Fin 128) : near (ix2 i j) = 1#1 := by
  pointwise [near]
  revert i j
  decide +kernel

/-- Every query's window has a key. -/
theorem anyNear_at (i : Fin 128) : anyNear (ix1 i) = 1#1 := by
  pointwise [anyNear, near_at]
  decide +kernel

/-- The projected queries, by head. -/
def refQ (x : FVec Ideal S2x128x512 .bf16) (wq : FVec Ideal S512x2048 .bf16) : FVec Ideal S2x128x32x64 .bf16 :=
  shapeCast _ (truncf .bf16 (Host.dotGeneral dot_S2x128x512_S512x2048_S2x128x2048_2_0_01_1_n_n none x wq) bitsLt_bf16_f32) shapeCasts_S2x128x2048_S2x128x32x64

/-- The scaled scores. -/
def refS (q k : FVec Ideal S2x128x32x64 .bf16) : FVec Ideal S2x32x128x128 .f32 :=
  mulf (extf .f32 (truncf .bf16 (Host.dotGeneral dot_S2x128x32x64_S2x128x32x64_S2x32x128x128_3_3_1_1_02_02 none q k) bitsLt_bf16_f32) bitsLt_bf16_f32)
    (broadcastInDim S2x32x128x128 ![] bcast_S_S2x32x128x128 (constant S_ .f32 0x3E000000#32))

/-- The scores with the window applied. -/
def refM (s : FVec Ideal S2x32x128x128 .f32) : FVec Ideal S2x32x128x128 .f32 :=
  select (broadcastInDim S2x32x128x128 ![0, 1, 2, 3] bcast_S1x1x128x128_S2x32x128x128_0_1_2_3 (broadcastInDim S1x1x128x128 ![2, 3] bcast_S128x128_S1x1x128x128_2_3 near)) s
    (broadcastInDim S2x32x128x128 ![] bcast_S_S2x32x128x128 (id (constant S_ .f32 0xCE6E6B28#32)))

/-- The exponentials of the scores less their row maximum. -/
def refE (s : FVec Ideal S2x32x128x128 .f32) : FVec Ideal S2x32x128x128 .f32 :=
  Host.exp (subf s (broadcastInDim S2x32x128x128 ![0, 1, 2, 3] bcast_S2x32x128x1_S2x32x128x128_0_1_2_3 (broadcastInDim S2x32x128x1 ![0, 1, 2] bcast_S2x32x128_S2x32x128x1_0_1_2
    (Host.reduce FloatOps.maximumf s (constant S_ .f32 0xFF800000#32) reducesTo_S2x32x128x128_S2x32x128_d3 h_S_))))

/-- The weights: the exponentials over their row sums. -/
def refW (e : FVec Ideal S2x32x128x128 .f32) : FVec Ideal S2x32x128x128 .f32 :=
  select (broadcastInDim S2x32x128x128 ![0, 1, 2, 3] bcast_S1x1x128x1_S2x32x128x128_0_1_2_3 (broadcastInDim S1x1x128x1 ![2] bcast_S128_S1x1x128x1_2 anyNear))
    (Host.divf e (broadcastInDim S2x32x128x128 ![0, 1, 2, 3] bcast_S2x32x128x1_S2x32x128x128_0_1_2_3
      (select (broadcastInDim S2x32x128x1 ![0, 1, 2, 3] bcast_S1x1x128x1_S2x32x128x1_0_1_2_3 (broadcastInDim S1x1x128x1 ![2] bcast_S128_S1x1x128x1_2 anyNear))
        (broadcastInDim S2x32x128x1 ![0, 1, 2] bcast_S2x32x128_S2x32x128x1_0_1_2 (Host.reduceAdd e (constant S_ .f32 0x00000000#32) reducesTo_S2x32x128x128_S2x32x128_d3 h_S_))
        (broadcastInDim S2x32x128x1 ![] bcast_S_S2x32x128x1 (id (constant S_ .f32 0x3F800000#32))))))
    (broadcastInDim S2x32x128x128 ![] bcast_S_S2x32x128x128 (id (constant S_ .f32 0x00000000#32)))

/-- The attention output, heads side by side. -/
def refC (v : FVec Ideal S2x128x32x64 .bf16) (w : FVec Ideal S2x32x128x128 .f32) : FVec Ideal S2x128x2048 .f32 :=
  shapeCast _ (transpose S2x128x32x64 [0, 3, 1, 2] (Host.dotGeneral dot_S2x128x32x64_S2x32x128x128_S2x32x64x128_1_3_3_2_02_01 none (extf .f32 v bitsLt_bf16_f32) w)
    transposes_S2x32x64x128_S2x128x32x64_0_3_1_2) shapeCasts_S2x128x32x64_S2x128x2048

/-- The output projection. -/
def refO (c : FVec Ideal S2x128x2048 .f32) (wo : FVec Ideal S2048x512 .bf16) : FVec Ideal S2x128x512 .f32 :=
  Host.dotGeneral dot_S2x128x2048_S2048x512_S2x128x512_2_0_01_1_n_n none c (extf .f32 wo bitsLt_bf16_f32)

/-- The reference's result is its seven stages, one after the other. -/
theorem res_stages (m : (ℓ : Loc nD τ sig) → Buf (Elt Ideal) ℓ) (c : Dev nD) :
    res_main_v39 m c = refO (refC (m ((c.tc : Thread nD τ).loc main_arg3)) (refW (refE (refM (refS (refQ (m ((c.tc : Thread nD τ).loc main_arg0)) (m ((c.tc : Thread nD τ).loc main_arg1))) (m ((c.tc : Thread nD τ).loc main_arg2)))))))
      (m ((c.tc : Thread nD τ).loc main_arg4)) := by
  unfold res_main_v39
  rfl

/-- The projected queries at an index. -/
theorem refQ_at (x : FVec Ideal S2x128x512 .bf16) (wq : FVec Ideal S512x2048 .bf16) (b : Fin 2) (i : Fin 128) (h : Fin 32) (d : Fin 64) :
    refQ x wq (ix4 b i h d) = ∑ e : Fin 512, x (ix3 b i e) * wq (ix2 e ⟨h.val * 64 + d.val, by omega⟩) := by
  pointwise [refQ]

/-- The scaled scores at an index. -/
theorem refS_at (q k : FVec Ideal S2x128x32x64 .bf16) (b : Fin 2) (h : Fin 32) (i j : Fin 128) :
    refS q k (ix4 b h i j) = (∑ d : Fin 64, q (ix4 b i h d) * k (ix4 b j h d)) * Ideal.ofBits .f32 0x3E000000#32 := by
  pointwise [refS]

/-- The window changes no score. -/
theorem refM_at (s : FVec Ideal S2x32x128x128 .f32) (b : Fin 2) (h : Fin 32) (i j : Fin 128) : refM s (ix4 b h i j) = s (ix4 b h i j) := by
  pointwise [refM, near_at]

/-- The exponentials at an index. -/
theorem refE_at (s : FVec Ideal S2x32x128x128 .f32) (b : Fin 2) (h : Fin 32) (i j : Fin 128) :
    refE s (ix4 b h i j) = Ideal.exp (s (ix4 b h i j) - Finset.univ.fold max (Ideal.ofBits .f32 0xFF800000#32) fun l => s (ix4 b h i l)) := by
  pointwise [refE]

/-- The weights at an index. -/
theorem refW_at (e : FVec Ideal S2x32x128x128 .f32) (b : Fin 2) (h : Fin 32) (i j : Fin 128) :
    refW e (ix4 b h i j) = Ideal.div (e (ix4 b h i j)) (∑ l : Fin 128, e (ix4 b h i l)) := by
  pointwise [refW, anyNear_at]

/-- The attention output at an index. -/
theorem refC_at (v : FVec Ideal S2x128x32x64 .bf16) (w : FVec Ideal S2x32x128x128 .f32) (b : Fin 2) (i : Fin 128) (n : Fin 2048) :
    refC v w (ix3 b i n) = ∑ j : Fin 128, v (ix4 b j ⟨n.val / 64, by omega⟩ ⟨n.val % 64, by omega⟩) * w (ix4 b ⟨n.val / 64, by omega⟩ i j) := by
  pointwise [refC]

/-- The output projection at an index. -/
theorem refO_at (c : FVec Ideal S2x128x2048 .f32) (wo : FVec Ideal S2048x512 .bf16) (b : Fin 2) (i : Fin 128) (n : Fin 512) :
    refO c wo (ix3 b i n) = ∑ k : Fin 2048, c (ix3 b i k) * wo (ix2 k n) := by
  pointwise [refO]

end Cert.ReferenceIdeal.Value
end
-- ==== Proof.Algebraic.lean ====
/- The kernel's result is the reference's, over the extended reals. -/
module

public import proofs.«01_k».proof.Defs
public import proofs.«01_k».proof.Proof.Run
public import proofs.«01_k».proof.Proof.KernelValue
public import proofs.«01_k».proof.Proof.RefValue

@[expose] public section

noncomputable section

namespace Cert.Proof

open Idealize.ShloMosaic Idealize.ShloMosaic.TcCoe Idealize.SL.Sem
open Cert.ReferenceIdeal.Value (refQ refS refM refE refW refC refO refQ_at refS_at refM_at refE_at refW_at refC_at refO_at)
open Cert.KernelIdeal.Run (soft)

/-! ## Algebra -/

/-- The scale is one eighth. -/
theorem scale_eq : Ideal.ofBits .f32 0x3E000000#32 = ((0.125 : ℝ) : EReal) := by
  simp [Ideal.ofBits, Ideal.ieee, -EReal.coe_mul]; norm_num

/-- Scaling a sum of products scales the first factors. -/
theorem scale_sum {n : ℕ} (q k : Fin n → EReal) :
    (∑ d, q d * k d) * Ideal.ofBits .f32 0x3E000000#32 = ∑ d, q d * Ideal.ofBits .f32 0x3E000000#32 * k d := by
  have h0 : (0 : EReal) ≤ ((0.125 : ℝ) : EReal) := by exact_mod_cast (by norm_num : (0 : ℝ) ≤ 0.125)
  rw [scale_eq, mul_comm]
  have hs : ∀ s : Finset (Fin n), ((0.125 : ℝ) : EReal) * ∑ d ∈ s, q d * k d = ∑ d ∈ s, q d * ((0.125 : ℝ) : EReal) * k d := by
    intro s
    induction s using Finset.cons_induction with
    | empty => simp
    | cons a s ha ih =>
      rw [Finset.sum_cons, Finset.sum_cons, EReal.left_distrib_of_nonneg_of_ne_top h0 (EReal.coe_ne_top _), ih]
      congr 1
      rw [mul_left_comm, mul_assoc]
  exact hs Finset.univ

/-- A device's own term and those of its seven peers, in the order they are added, are all eight. -/
theorem sum_devices (P : Fin 8 → EReal) (c : Fin 8) :
    P c + P (Cert.KernelIdeal.Run.peer c (Cert.KernelIdeal.Run.rev 0)) + P (Cert.KernelIdeal.Run.peer c (Cert.KernelIdeal.Run.rev 1)) + P (Cert.KernelIdeal.Run.peer c (Cert.KernelIdeal.Run.rev 2)) + P (Cert.KernelIdeal.Run.peer c (Cert.KernelIdeal.Run.rev 3)) + P (Cert.KernelIdeal.Run.peer c (Cert.KernelIdeal.Run.rev 4))
      + P (Cert.KernelIdeal.Run.peer c (Cert.KernelIdeal.Run.rev 5)) + P (Cert.KernelIdeal.Run.peer c (Cert.KernelIdeal.Run.rev 6)) = ∑ d, P d := by
  rw [← Equiv.sum_comp (Equiv.subLeft c) P, Fin.sum_univ_eight]
  have h : ∀ c : Fin 8, c - 0 = c ∧ c - 1 = Cert.KernelIdeal.Run.peer c (Cert.KernelIdeal.Run.rev 0) ∧ c - 2 = Cert.KernelIdeal.Run.peer c (Cert.KernelIdeal.Run.rev 1) ∧ c - 3 = Cert.KernelIdeal.Run.peer c (Cert.KernelIdeal.Run.rev 2)
    ∧ c - 4 = Cert.KernelIdeal.Run.peer c (Cert.KernelIdeal.Run.rev 3) ∧ c - 5 = Cert.KernelIdeal.Run.peer c (Cert.KernelIdeal.Run.rev 4) ∧ c - 6 = Cert.KernelIdeal.Run.peer c (Cert.KernelIdeal.Run.rev 5) ∧ c - 7 = Cert.KernelIdeal.Run.peer c (Cert.KernelIdeal.Run.rev 6) := by decide
  obtain ⟨e0, e1, e2, e3, e4, e5, e6, e7⟩ := h c
  simp only [Equiv.subLeft_apply, e0, e1, e2, e3, e4, e5, e6, e7]

/-! ## The reference's attention output, in the kernel's terms -/

/-- Column `256 c + n` of the reference's attention output belongs to head `4 c + n / 64`, feature `n % 64`. -/
theorem ref_ctx (x : FVec Ideal ⟨3, ![2, 128, 512]⟩ .bf16) (wq : FVec Ideal ⟨2, ![512, 2048]⟩ .bf16) (k v : FVec Ideal ⟨4, ![2, 128, 32, 64]⟩ .bf16)
    (b : Fin 2) (i : Fin 128) (c : Fin 8) (n : Fin 256) :
    refC v (refW (refE (refM (refS (refQ x wq) k)))) (ix3 b i ⟨c.val * 256 + n.val, by omega⟩) =
      ∑ j : Fin 128, soft (fun l => ∑ e : Fin 64,
        ((∑ e' : Fin 512, x (ix3 b i e') * wq (ix2 e' ⟨c.val * 256 + (64 * (n.val / 64) + e.val), by omega⟩)) * Ideal.ofBits .f32 0x3E000000#32)
          * k (ix4 b l ⟨4 * c.val + n.val / 64, by omega⟩ e)) j * v (ix4 b j ⟨4 * c.val + n.val / 64, by omega⟩ ⟨n.val % 64, by omega⟩) := by
  have e1 : (⟨(c.val * 256 + n.val) / 64, by omega⟩ : Fin 32) = ⟨4 * c.val + n.val / 64, by omega⟩ := Fin.ext (by simp only []; omega)
  have e2 : (⟨(c.val * 256 + n.val) % 64, by omega⟩ : Fin 64) = ⟨n.val % 64, by omega⟩ := Fin.ext (by simp only []; omega)
  have e3 : ∀ e : Fin 64, (⟨(4 * c.val + n.val / 64) * 64 + e.val, by omega⟩ : Fin 2048) = ⟨c.val * 256 + (64 * (n.val / 64) + e.val), by omega⟩ :=
    fun e => Fin.ext (by simp only []; omega)
  rw [refC_at]
  refine Finset.sum_congr rfl fun j _ => ?_
  rw [mul_comm, e1, e2, refW_at]
  simp only [refE_at, refM_at, refS_at, scale_sum, refQ_at, e3]
  rfl

/-! ## The two results -/

variable (m : (ℓ : Loc Cert.KernelIdeal.nD Cert.KernelIdeal.τ Cert.KernelIdeal.sig) → Buf (Elt Ideal) ℓ)

/-- A device's part of the query weights is its 256 columns. -/
theorem wq_block (c : Dev Cert.KernelIdeal.nD) (w : FVec Ideal ⟨2, ![512, 2048]⟩ .bf16)
    (h : m ((c.tc : Thread Cert.KernelIdeal.nD Cert.KernelIdeal.τ).loc Cert.KernelIdeal.main_arg1) = Layout.block ⟨2, ![512, 256]⟩ ⟨2, ![512, 2048]⟩ 1 8 c w)
    (e : Fin 512) (n : Fin 256) : Cert.KernelIdeal.Run.wqIn m c (ix2 e n) = w (ix2 e ⟨c.val * 256 + n.val, by have : c.val < 8 := c.isLt; omega⟩) := by
  unfold Cert.KernelIdeal.Run.wqIn
  rw [Cert.KernelIdeal.Gen.V1_of m c Cert.KernelIdeal.main_arg1 (by decide)]
  refine (congrFun h (ix2 e n)).trans ?_
  refine congrArg w (funext fun a => Fin.ext ?_)
  rw [Layout.Tiles.idx_val]
  fin_cases a <;> rfl

/-- A device's part of the output weights is its 256 rows. -/
theorem wo_block (c : Dev Cert.KernelIdeal.nD) (w : FVec Ideal ⟨2, ![2048, 512]⟩ .bf16)
    (h : m ((c.tc : Thread Cert.KernelIdeal.nD Cert.KernelIdeal.τ).loc Cert.KernelIdeal.main_arg4) = Layout.block ⟨2, ![256, 512]⟩ ⟨2, ![2048, 512]⟩ 0 8 c w)
    (k : Fin 256) (n : Fin 512) : Cert.KernelIdeal.Run.woIn m c (ix2 k n) = w (ix2 ⟨c.val * 256 + k.val, by have : c.val < 8 := c.isLt; omega⟩ n) := by
  unfold Cert.KernelIdeal.Run.woIn
  rw [Cert.KernelIdeal.Gen.V1_of m c Cert.KernelIdeal.main_arg4 (by decide)]
  refine (congrFun h (ix2 k n)).trans ?_
  refine congrArg w (funext fun a => Fin.ext ?_)
  rw [Layout.Tiles.idx_val]
  fin_cases a <;> rfl

section Meet

variable (m' : (ℓ : Loc Cert.ReferenceIdeal.nD Cert.ReferenceIdeal.τ Cert.ReferenceIdeal.sig) → Buf (Elt Ideal) ℓ)

/-- The reference's buffer `b`. -/
abbrev refBuf (b : Ref Cert.ReferenceIdeal.sig .tc) := m' (((0 : Dev Cert.ReferenceIdeal.nD).tc : Thread Cert.ReferenceIdeal.nD Cert.ReferenceIdeal.τ).loc b)
/-- Device `c`'s buffer `b`. -/
abbrev devBuf (c : Dev Cert.KernelIdeal.nD) (b : Ref Cert.KernelIdeal.sig .tc) := m ((c.tc : Thread Cert.KernelIdeal.nD Cert.KernelIdeal.τ).loc b)

/-- The devices hold the reference's arguments: whole, or each its block. -/
def Meet : Prop := ∀ c : Dev Cert.KernelIdeal.nD,
  devBuf m c Cert.KernelIdeal.main_arg0 = refBuf m' Cert.ReferenceIdeal.main_arg0
  ∧ devBuf m c Cert.KernelIdeal.main_arg1 = Layout.block ⟨2, ![512, 256]⟩ ⟨2, ![512, 2048]⟩ 1 8 c (refBuf m' Cert.ReferenceIdeal.main_arg1)
  ∧ devBuf m c Cert.KernelIdeal.main_arg2 = refBuf m' Cert.ReferenceIdeal.main_arg2
  ∧ devBuf m c Cert.KernelIdeal.main_arg3 = refBuf m' Cert.ReferenceIdeal.main_arg3
  ∧ devBuf m c Cert.KernelIdeal.main_arg4 = Layout.block ⟨2, ![256, 512]⟩ ⟨2, ![2048, 512]⟩ 0 8 c (refBuf m' Cert.ReferenceIdeal.main_arg4)

/-- The reference's attention output, heads side by side. -/
def refCtx : FVec Ideal ⟨3, ![2, 128, 2048]⟩ .f32 :=
  refC (refBuf m' Cert.ReferenceIdeal.main_arg3) (refW (refE (refM (refS (refQ (refBuf m' Cert.ReferenceIdeal.main_arg0) (refBuf m' Cert.ReferenceIdeal.main_arg1))
    (refBuf m' Cert.ReferenceIdeal.main_arg2)))))

variable {m m'}

/-- A device's attention output is its 256 columns of the reference's. -/
theorem ctx_block (hm : Meet m m') (c : Dev Cert.KernelIdeal.nD) (r n : Fin 256) :
    Cert.KernelIdeal.Run.ctx m c (ix2 r n)
      = refCtx m' (ix3 ⟨r.val / 128, by omega⟩ ⟨r.val % 128, by omega⟩ ⟨c.val * 256 + n.val, by have : c.val < 8 := c.isLt; omega⟩) := by
  obtain ⟨h0, h1, h2, h3, _⟩ := hm c
  refine Eq.trans ?_ (ref_ctx _ _ _ _ ⟨r.val / 128, by omega⟩ ⟨r.val % 128, by omega⟩ c n).symm
  show Cert.KernelIdeal.Run.tile (Cert.KernelIdeal.Run.xIn m c) (Cert.KernelIdeal.Run.wqIn m c) (Cert.KernelIdeal.Run.kIn m c) (Cert.KernelIdeal.Run.vIn m c)
    ⟨r.val / 128, by omega⟩ ⟨n.val / 64, by omega⟩ (ix2 ⟨r.val % 128, by omega⟩ ⟨n.val % 64, by omega⟩) = _
  have er : ∀ h, (⟨128 * (r.val / 128) + r.val % 128, h⟩ : Fin 256) = r := fun h => Fin.ext (by simp only []; omega)
  rw [Cert.KernelIdeal.Run.tile_at]
  have hx := fun i e => (Cert.KernelIdeal.Run.xIn_at m c i e).trans (congrFun h0 _)
  have hk := fun b h j d => (Cert.KernelIdeal.Run.kIn_at m c b h j d).trans (congrFun h2 _)
  have hv := fun b h j d => (Cert.KernelIdeal.Run.vIn_at m c b h j d).trans (congrFun h3 _)
  simp only [er, hx, wq_block m c _ h1, hk, hv]

/-- Device `d`'s part of the output projection at (batch, position, column): its 256 terms of the reference's sum. -/
def refPart (m' : (ℓ : Loc Cert.ReferenceIdeal.nD Cert.ReferenceIdeal.τ Cert.ReferenceIdeal.sig) → Buf (Elt Ideal) ℓ) (b : Fin 2) (i : Fin 128) (n : Fin 512) (d : Fin 8) : EReal :=
  ∑ k : Fin 256, refCtx m' (ix3 b i ⟨d.val * 256 + k.val, by omega⟩)
    * (refBuf m' Cert.ReferenceIdeal.main_arg4 : FVec Ideal ⟨2, ![2048, 512]⟩ .bf16) (ix2 ⟨d.val * 256 + k.val, by omega⟩ n)

/-- Device `d`'s partial product of the row that device `t` reduces is its part of the reference's sum. -/
theorem part_sum (hm : Meet m m') (b : Fin 2) (i : Fin 128) (n : Fin 512) (d t : Dev Cert.KernelIdeal.nD) (ht : t.val = b.val * 4 + i.val / 32) :
    ∑ k : Fin 256, Cert.KernelIdeal.Run.rowsOf (Cert.KernelIdeal.Run.ctx m d) t (ix2 ⟨i.val % 32, by omega⟩ k) * Cert.KernelIdeal.Run.woIn m d (ix2 k n)
      = refPart m' b i n d := by
  refine Finset.sum_congr rfl fun k _ => ?_
  have hd : d.val < 8 := d.isLt
  rw [Cert.KernelIdeal.Run.rowsOf_at, ctx_block hm, wo_block m d _ (hm d).2.2.2.2]
  have e1 : ∀ h, (⟨(32 * t.val + i.val % 32) / 128, h⟩ : Fin 2) = b := fun h => Fin.ext (by simp only []; omega)
  have e2 : ∀ h, (⟨(32 * t.val + i.val % 32) % 128, h⟩ : Fin 128) = i := fun h => Fin.ext (by simp only []; omega)
  simp only [e1, e2]

/-- The kernel's result on every device is the reference's, element by element. -/
theorem value_at (hm : Meet m m') (c : Dev Cert.KernelIdeal.nD) (b : Fin 2) (i : Fin 128) (n : Fin 512) :
    Cert.KernelIdeal.Gen.V3 m (Cert.KernelIdeal.Run.outs m) c Cert.KernelIdeal.main_v19 (ix3 b i n)
      = Cert.ReferenceIdeal.Value.res_main_v39 m' 0 (ix3 b i n) := by
  rw [Cert.KernelIdeal.Run.result_at, Cert.ReferenceIdeal.Value.res_stages]
  refine Eq.trans ?_ (refO_at (refCtx m') _ b i n).symm
  rw [Fin.sum_univ_tiles 8 256 rfl]
  have ht : b.val * 4 + i.val / 32 < 8 := by omega
  refine Eq.trans ?_ (sum_devices (refPart m' b i n) ⟨b.val * 4 + i.val / 32, ht⟩)
  unfold Cert.KernelIdeal.Run.red
  rw [Cert.KernelIdeal.Run.sum8_at]
  simp only [Cert.KernelIdeal.Run.got, Cert.KernelIdeal.Run.part, Cert.KernelIdeal.Run.send_at]
  simp only [part_sum hm b i n _ ⟨b.val * 4 + i.val / 32, ht⟩ rfl]

/-- The kernel's result on every device is the reference's. -/
theorem value_eq (hm : Meet m m') (c : Dev Cert.KernelIdeal.nD) :
    Cert.KernelIdeal.Gen.V3 m (Cert.KernelIdeal.Run.outs m) c Cert.KernelIdeal.main_v19 = Cert.ReferenceIdeal.Value.res_main_v39 m' 0 := by
  funext y
  obtain ⟨b, i, n, rfl⟩ : ∃ (b : Fin 2) (i : Fin 128) (n : Fin 512), y = ix3 b i n := ⟨_, _, _, ValueIdx.eq_ix3 y⟩
  exact value_at hm c b i n

end Meet

/-- Over extended reals, from memories that hold the same arguments, every device's result is the reference's, and all arguments are left as they were. -/
theorem algebraic : Cert.algebraic_KernelIdeal_ReferenceIdeal := by
  intro m g m' g' _ hm
  refine ⟨Cert.ReferenceIdeal.Value.res_main_v39 m' 0, ?_, ?_⟩
  · exact (θ_run _ _ _).mono (fun r h c => ⟨(h.1 c).2.trans (value_eq hm c), (h.1 c).1⟩) (Cert.KernelIdeal.Run.run_main m g)
  · exact (θ_run _ _ _).mono (fun r h => h 0) (Cert.ReferenceIdeal.Value.run m' g')

end Cert.Proof

end
-- ==== Proof.lean ====
/- The claims, put together. -/
module

public import proofs.«01_k».proof.Defs
public import proofs.«01_k».proof.Proof.Frames
public import proofs.«01_k».proof.Proof.Algebraic
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

/-- Every claim of this directory. -/
theorem claim : Cert.Claim := ⟨Cert.Kernel.Gen.facts, Cert.KernelIdeal.Gen.facts, Cert.ReferenceIdeal.Gen.facts,
  frame_kernel, frame_ideal, frame_reference, trivial, algebraic⟩

end Cert.Proof

end
